-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_x [hPre_normal_x : Cert.Pre_normal_x.Facts] (m : (ℓ : Loc Cert.KernelIdeal.nD Cert.KernelIdeal.τ Cert.KernelIdeal.sig) → Buf (Elt Ideal) ℓ) : Prop :=
  ∀ c : Dev Cert.KernelIdeal.nD,
    (Cert.Pre_normal_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_x [hPre_normal_x : Cert.Pre_normal_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_normal_x [hKernelIdeal : Cert.KernelIdeal.Facts] [hPre_normal_x : Cert.Pre_normal_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_normal_x [hReferenceIdeal : Cert.ReferenceIdeal.Facts] [hPre_normal_x : Cert.Pre_normal_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_normal_x [hKernelIdeal : Cert.KernelIdeal.Facts] [hReferenceIdeal : Cert.ReferenceIdeal.Facts] [hPre_normal_x : Cert.Pre_normal_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_normal_x : Cert.Pre_normal_x.Facts),
    quiescent_Kernel (hKernel := hKernel)
    ∧ quiescent_KernelIdeal (hKernelIdeal := hKernelIdeal)
    ∧ quiescent_KernelIdeal_pre_normal_x (hKernelIdeal := hKernelIdeal) (hPre_normal_x := hPre_normal_x)
    ∧ quiescent_ReferenceIdeal (hReferenceIdeal := hReferenceIdeal)
    ∧ quiescent_ReferenceIdeal_pre_normal_x (hReferenceIdeal := hReferenceIdeal) (hPre_normal_x := hPre_normal_x)
    ∧ preserves_Kernel_KernelIdeal
    ∧ algebraic_KernelIdeal_ReferenceIdeal_pre_normal_x (hKernelIdeal := hKernelIdeal) (hReferenceIdeal := hReferenceIdeal) (hPre_normal_x := hPre_normal_x)
-- ==== Pre_normal_x.lean ====
abbrev S24x1x5120 : Shape := ⟨3, ![24, 1, 5120]⟩
abbrev S55296x5120 : Shape := ⟨2, ![55296, 5120]⟩
abbrev S432x40 : Shape := ⟨2, ![432, 40]⟩
abbrev S24x40x128 : Shape := ⟨3, ![24, 40, 128]⟩
abbrev S_ : Shape := ⟨0, ![]⟩
abbrev S24x40 : Shape := ⟨2, ![24, 40]⟩

class Facts : Prop where
  bitsLt_bf16_f32 : FTy.bits .bf16 < FTy.bits .f32
  shapeCasts_S24x1x5120_S24x40x128 : S24x1x5120.ShapeCasts S24x40x128
  reducesTo_S24x40x128_S24x40_d2 : S24x40x128.ReducesTo [2] S24x40
  h_S_ : 0 < S_.numel
  bcast_S_S24x1x5120 : S_.BroadcastsInDim S24x1x5120 (![] : Fin 0 → Fin S24x1x5120.rank)
  reducesTo_S24x1x5120_S_d0_1_2 : S24x1x5120.ReducesTo [0, 1, 2] S_
  bcast_S_S24x40 : S_.BroadcastsInDim S24x40 (![] : Fin 0 → Fin S24x40.rank)
  reducesTo_S24x40_S_d0_1 : S24x40.ReducesTo [0, 1] S_

variable [Facts]

def fn {F : FTy → Type} [FloatOps F] (main_arg0 : FVec F S24x1x5120 .bf16) (main_arg1 : FVec F S55296x5120 .fp8e4m3) (main_arg2 : FVec F S432x40 .f32) (main_arg3 : FVec F S55296x5120 .fp8e4m3) (main_arg4 : FVec F S432x40 .f32) : IVec S_ 1 :=
  let main_v0 : FVec F S24x1x5120 .f32 := (extf .f32 · bitsLt_bf16_f32) main_arg0
  let main_v1 : FVec F S24x40x128 .f32 := shapeCast S24x40x128 main_v0 shapeCasts_S24x1x5120_S24x40x128
  let main_v2 : FVec F S24x40x128 .f32 := Host.absf main_v1
  let main_cst : FVec F S_ .f32 := constant S_ .f32 0xFF800000#32
  let main_v3 : FVec F S24x40 .f32 := (fun x v => Host.reduce FloatOps.maximumf x v reducesTo_S24x40x128_S24x40_d2 h_S_) main_v2 main_cst
  let main_v4 : FVec F S24x1x5120 .bf16 := Host.absf main_arg0
  let main_cst_0 : FVec F S_ .bf16 := constant S_ .bf16 0x7F7F#16
  let main_v5 : FVec F S24x1x5120 .bf16 := broadcastInDim S24x1x5120 ![] bcast_S_S24x1x5120 main_cst_0
  let main_v6 : IVec S24x1x5120 1 := cmpf .ole main_v4 main_v5
  let main_c : IVec S_ 1 := constantI S_ 1 1#1
  let main_v7 : IVec S_ 1 := (fun x v => Host.reduce IntOp.andi x v reducesTo_S24x1x5120_S_d0_1_2 h_S_) main_v6 main_c
  let main_cst_1 : FVec F S_ .f32 := constant S_ .f32 0x00000000#32
  let main_v8 : FVec F S24x40 .f32 := broadcastInDim S24x40 ![] bcast_S_S24x40 main_cst_1
  let main_v9 : IVec S24x40 1 := cmpf .oeq main_v3 main_v8
  let main_cst_2 : FVec F S_ .f32 := constant S_ .f32 0x3B124925#32
  let main_v10 : FVec F S24x40 .f32 := broadcastInDim S24x40 ![] bcast_S_S24x40 main_cst_2
  let main_v11 : FVec F S24x40 .f32 := mulf main_v3 main_v10
  let main_cst_3 : FVec F S_ .f32 := constant S_ .f32 0x00800000#32
  let main_v12 : FVec F S24x40 .f32 := broadcastInDim S24x40 ![] bcast_S_S24x40 main_cst_3
  let main_v13 : IVec S24x40 1 := cmpf .oge main_v11 main_v12
  let main_v14 : IVec S24x40 1 := ori main_v9 main_v13
  let main_c_4 : IVec S_ 1 := constantI S_ 1 1#1
  let main_v15 : IVec S_ 1 := (fun x v => Host.reduce IntOp.andi x v reducesTo_S24x40_S_d0_1 h_S_) main_v14 main_c_4
  let main_v16 : IVec S_ 1 := andi main_v7 main_v15
  main_v16
-- ==== Kernel.lean ====
abbrev S24x1x5120 : Shape := ⟨3, ![24, 1, 5120]⟩
abbrev S55296x5120 : Shape := ⟨2, ![55296, 5120]⟩
abbrev S432x40 : Shape := ⟨2, ![432, 40]⟩
abbrev S24x5120 : Shape := ⟨2, ![24, 5120]⟩
abbrev S24x55296 : Shape := ⟨2, ![24, 55296]⟩
abbrev S24x40 : Shape := ⟨2, ![24, 40]⟩
abbrev S1024x5120 : Shape := ⟨2, ![1024, 5120]⟩
abbrev S8x40 : Shape := ⟨2, ![8, 40]⟩
abbrev S24x1024 : Shape := ⟨2, ![24, 1024]⟩
abbrev S20x64x256 : Shape := ⟨3, ![20, 64, 256]⟩
abbrev S40x24x128 : Shape := ⟨3, ![40, 24, 128]⟩
abbrev S24x256 : Shape := ⟨2, ![24, 256]⟩
abbrev S24x128 : Shape := ⟨2, ![24, 128]⟩
abbrev S24 : Shape := ⟨1, ![24]⟩
abbrev S24x1 : Shape := ⟨2, ![24, 1]⟩
abbrev S1x24x128 : Shape := ⟨3, ![1, 24, 128]⟩
abbrev S8x128 : Shape := ⟨2, ![8, 128]⟩
abbrev S32x128 : Shape := ⟨2, ![32, 128]⟩
abbrev S1x32x128 : Shape := ⟨3, ![1, 32, 128]⟩
abbrev S1x64x256 : Shape := ⟨3, ![1, 64, 256]⟩
abbrev S64x256 : Shape := ⟨2, ![64, 256]⟩
abbrev S256x256 : Shape := ⟨2, ![256, 256]⟩
abbrev S1x1 : Shape := ⟨2, ![1, 1]⟩

abbrev nBuf : Space → Nat
  | .hbm => 9
  | .vmem => 11
  | .smem => 4
  | _ => 0

abbrev bufTy : (tb : Table) → Fin (tcTables nBuf tb) → BufTy
  | .hbm, ⟨0, _⟩ => ⟨S24x1x5120, .bf16⟩
  | .hbm, ⟨1, _⟩ => ⟨S55296x5120, .fp8e4m3⟩
  | .hbm, ⟨2, _⟩ => ⟨S432x40, .f32⟩
  | .hbm, ⟨3, _⟩ => ⟨S55296x5120, .fp8e4m3⟩
  | .hbm, ⟨4, _⟩ => ⟨S432x40, .f32⟩
  | .hbm, ⟨5, _⟩ => ⟨S24x5120, .bf16⟩
  | .hbm, ⟨6, _⟩ => ⟨S24x55296, .bf16⟩
  | .hbm, ⟨7, _⟩ => ⟨S24x5120, .fp8e4m3⟩
  | .hbm, ⟨8, _⟩ => ⟨S24x40, .f32⟩
  | .local _ .vmem, ⟨0, _⟩ => ⟨S24x5120, .bf16⟩
  | .local _ .vmem, ⟨1, _⟩ => ⟨S1024x5120, .fp8e4m3⟩
  | .local _ .vmem, ⟨2, _⟩ => ⟨S1024x5120, .fp8e4m3⟩
  | .local _ .vmem, ⟨3, _⟩ => ⟨S1024x5120, .fp8e4m3⟩
  | .local _ .vmem, ⟨4, _⟩ => ⟨S1024x5120, .fp8e4m3⟩
  | .local _ .vmem, ⟨5, _⟩ => ⟨S24x1024, .bf16⟩
  | .local _ .vmem, ⟨6, _⟩ => ⟨S24x1024, .bf16⟩
  | .local _ .vmem, ⟨7, _⟩ => ⟨S24x5120, .fp8e4m3⟩
  | .local _ .vmem, ⟨8, _⟩ => ⟨S24x40, .f32⟩
  | .local _ .vmem, ⟨9, _⟩ => ⟨S20x64x256, .fp8e4m3⟩
  | .local _ .vmem, ⟨10, _⟩ => ⟨S40x24x128, .f32⟩
  | .local _ .smem, ⟨0, _⟩ => ⟨S8x40, .f32⟩
  | .local _ .smem, ⟨1, _⟩ => ⟨S8x40, .f32⟩
  | .local _ .smem, ⟨2, _⟩ => ⟨S8x40, .f32⟩
  | .local _ .smem, ⟨3, _⟩ => ⟨S8x40, .f32⟩
  | _, _ => ⟨S24x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_stg2_0 : Ref sig .tc := ⟨.smem, 0, rfl⟩
abbrev cc0_stg2_1 : Ref sig .tc := ⟨.smem, 1, rfl⟩
abbrev cc0_stg4_0 : Ref sig .tc := ⟨.smem, 2, rfl⟩
abbrev cc0_stg4_1 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![54], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S24x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S8x40 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x5120 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .smem S8x40 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S24x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S24x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S24x1x5120 : Shape := ⟨3, ![24, 1, 5120]⟩
abbrev S55296x5120 : Shape := ⟨2, ![55296, 5120]⟩
abbrev S432x40 : Shape := ⟨2, ![432, 40]⟩
abbrev S24x5120 : Shape := ⟨2, ![24, 5120]⟩
abbrev S24x55296 : Shape := ⟨2, ![24, 55296]⟩
abbrev S24x40 : Shape := ⟨2, ![24, 40]⟩
abbrev S24x40x128 : Shape := ⟨3, ![24, 40, 128]⟩
abbrev S24x40x1 : Shape := ⟨3, ![24, 40, 1]⟩
abbrev S55296x40x128 : Shape := ⟨3, ![55296, 40, 128]⟩
abbrev S40x24x55296 : Shape := ⟨3, ![40, 24, 55296]⟩
abbrev S40x24x432x128 : Shape := ⟨4, ![40, 24, 432, 128]⟩
abbrev S40x24 : Shape := ⟨2, ![40, 24]⟩
abbrev S40x24x1x1 : Shape := ⟨4, ![40, 24, 1, 1]⟩
abbrev S40x432 : Shape := ⟨2, ![40, 432]⟩
abbrev S40x1x432x1 : Shape := ⟨4, ![40, 1, 432, 1]⟩
abbrev S40x24x432x1 : Shape := ⟨4, ![40, 24, 432, 1]⟩
abbrev S24x432x128 : Shape := ⟨3, ![24, 432, 128]⟩

abbrev nBuf : Space → Nat
  | .hbm => 9
  | .vmem => 8
  | .smem => 0
  | _ => 0

abbrev bufTy : (tb : Table) → Fin (tcTables nBuf tb) → BufTy
  | .hbm, ⟨0, _⟩ => ⟨S24x1x5120, .bf16⟩
  | .hbm, ⟨1, _⟩ => ⟨S55296x5120, .fp8e4m3⟩
  | .hbm, ⟨2, _⟩ => ⟨S432x40, .f32⟩
  | .hbm, ⟨3, _⟩ => ⟨S55296x5120, .fp8e4m3⟩
  | .hbm, ⟨4, _⟩ => ⟨S432x40, .f32⟩
  | .hbm, ⟨5, _⟩ => ⟨S24x5120, .bf16⟩
  | .hbm, ⟨6, _⟩ => ⟨S24x55296, .bf16⟩
  | .hbm, ⟨7, _⟩ => ⟨S24x5120, .fp8e4m3⟩
  | .hbm, ⟨8, _⟩ => ⟨S24x40, .f32⟩
  | .local _ .vmem, ⟨0, _⟩ => ⟨S24x5120, .bf16⟩
  | .local _ .vmem, ⟨1, _⟩ => ⟨S55296x5120, .fp8e4m3⟩
  | .local _ .vmem, ⟨2, _⟩ => ⟨S432x40, .f32⟩
  | .local _ .vmem, ⟨3, _⟩ => ⟨S55296x5120, .fp8e4m3⟩
  | .local _ .vmem, ⟨4, _⟩ => ⟨S432x40, .f32⟩
  | .local _ .vmem, ⟨5, _⟩ => ⟨S24x55296, .bf16⟩
  | .local _ .vmem, ⟨6, _⟩ => ⟨S24x5120, .fp8e4m3⟩
  | .local _ .vmem, ⟨7, _⟩ => ⟨S24x40, .f32⟩
  | _, _ => ⟨S24x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S55296x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S432x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S55296x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S432x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x55296 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Named.lean ====
/-
   The values the kernel leaves, named uniformly in the group: what the quantisation writes for one group of columns, and
   the accumulation of one block of output columns. Every definition is at any float instance. -/
module

public import proofs.«01_k».proof.Proof.Gen.KernelIdeal.Frame
public import proofs.«01_k».proof.Proof.Gen.KernelIdeal.Skeleton
public import Idealize.ShloMosaic.Lib.ValueIdxCore
public import Idealize.ShloMosaic.Lib.Pipeline.Value
public import Idealize.ShloMosaic.Lib.Pipeline.ValueKit.Tiles

@[expose] public section

set_option maxRecDepth 16384

noncomputable section

namespace Cert.KernelIdeal.Run

open Cert.KernelIdeal.Gen
open Idealize.ShloMosaic Idealize.ShloMosaic.TcCoe Idealize.ShloMosaic.Tactic
open Idealize.ShloMosaic.ValueIdx

variable {F : FTy → Type} [FloatOps F]

/-! ## Lists of pieces, one per index -/

section Upto
variable {s : Shape} {e : EltTy} {Val : EltTy → Type} {N : ℕ}

/-- The pieces `n - 1, …, 0` before the base list `L0`. -/
def upto (P : (n : ℕ) → n < N → View.Piece Val s e) (L0 : List (View.Piece Val s e)) : (n : ℕ) → n ≤ N → List (View.Piece Val s e)
  | 0, _ => L0
  | n + 1, h => P n h :: upto P L0 n (Nat.le_of_succ_le h)

/-- Every piece of smaller index is in the list; -/
theorem mem_upto (P : (n : ℕ) → n < N → View.Piece Val s e) (L0 : List (View.Piece Val s e)) :
    ∀ (n : ℕ) (h : n ≤ N) (m : ℕ) (hm : m < n), P m (hm.trans_le h) ∈ upto P L0 n h
  | n + 1, h, m, hm => by
    rcases Nat.lt_succ_iff_lt_or_eq.mp hm with h' | rfl
    · exact List.mem_cons_of_mem _ (mem_upto P L0 n _ m h')
    · exact List.mem_cons_self

/-- and so is the base list. -/
theorem mem_upto_base (P : (n : ℕ) → n < N → View.Piece Val s e) (L0 : List (View.Piece Val s e)) (p : View.Piece Val s e) (hp : p ∈ L0) :
    ∀ (n : ℕ) (h : n ≤ N), p ∈ upto P L0 n h
  | 0, _ => hp
  | n + 1, h => List.mem_cons_of_mem _ (mem_upto_base P L0 p hp n _)

/-- Where every piece holds `G`'s values, and the base list holds them off the pieces, the list leaves `G`. -/
theorem canon_upto [∀ e, Nonempty (Val e)] (P : (n : ℕ) → n < N → View.Piece Val s e) (L0 : List (View.Piece Val s e)) (G : s.Idx → Val e)
    (hG : ∀ n h (x : (P n h).1.shape.Idx), (P n h).2 x = G ((P n h).1.emb x)) (y : s.Idx) :
    ∀ (n : ℕ) (h : n ≤ N), ((∃ m, ∃ hm : m < n, y ∈ (P m (hm.trans_le h)).1.set) ∨ View.canon L0 y = G y) → View.canon (upto P L0 n h) y = G y
  | 0, h, hy => by
    rcases hy with ⟨m, hm, _⟩ | hy
    · exact absurd hm (Nat.not_lt_zero m)
    · exact hy
  | n + 1, h, hy => by
    show View.canon (P n h :: upto P L0 n (Nat.le_of_succ_le h)) y = G y
    by_cases hm : y ∈ (P n h).1.set
    · obtain ⟨x, rfl⟩ := (P n h).1.exists_idx_of_mem hm
      rw [show (P n h).1.idx x = (P n h).1.emb x from rfl, View.canon_cons_emb]
      exact hG n h x
    · rw [View.canon_cons_of_not_mem _ _ hm]
      refine canon_upto P L0 G hG y n _ ?_
      rcases hy with ⟨m, hm', hy⟩ | hy
      · rcases Nat.lt_succ_iff_lt_or_eq.mp hm' with h' | rfl
        · exact .inl ⟨m, h', hy⟩
        · exact absurd hy hm
      · exact .inr hy

/-- What a view reads after such writes, the pieces covering the shape. -/
theorem read_upto [∀ e, Nonempty (Val e)] {sig : RefSig} {κ : Kind} {sp : Space} (v : View sig κ sp s e) (f : v.ty.Contents Val)
    (P : (n : ℕ) → n < N → View.Piece Val s e) (G : s.Idx → Val e)
    (hG : ∀ n h (x : (P n h).1.shape.Idx), (P n h).2 x = G ((P n h).1.emb x))
    (hc : ∀ y, ∃ m, ∃ hm : m < N, y ∈ (P m hm).1.set) :
    v.read Val (v.writes Val f (upto P [] N le_rfl)) = G := by
  funext y
  obtain ⟨m, hm, hy⟩ := hc y
  rw [View.read_writes_apply_eq_canon v f y _ ⟨_, mem_upto P [] N le_rfl m hm, hy⟩]
  exact canon_upto P [] G hG y N le_rfl (.inl ⟨m, hm, hy⟩)

/-- The same over a first write of the whole buffer. -/
theorem read_upto_fill [∀ e, Nonempty (Val e)] {sig : RefSig} {κ : Kind} {sp : Space} (v : View sig κ sp s e) (f : v.ty.Contents Val)
    (P : (n : ℕ) → n < N → View.Piece Val s e) (p0 : View.Piece Val s e) (G : s.Idx → Val e)
    (hG : ∀ n h (x : (P n h).1.shape.Idx), (P n h).2 x = G ((P n h).1.emb x)) (hp : ∀ y, y ∈ p0.1.set)
    (hc : ∀ y, (∃ m, ∃ hm : m < N, y ∈ (P m hm).1.set) ∨ View.canon [p0] y = G y) :
    v.read Val (v.writes Val f (upto P [p0] N le_rfl)) = G := by
  funext y
  rw [View.read_writes_apply_eq_canon v f y _ ⟨p0, mem_upto_base P [p0] p0 List.mem_cons_self N le_rfl, hp y⟩]
  exact canon_upto P [p0] G hG y N le_rfl (hc y)

end Upto

/-! ## One group of columns -/

theorem inb_col (g : ℕ) (h : g < 40) : ∀ a, (![0, 128 * g] : Fin 2 → ℕ) a + S24x128.size a ≤ S24x5120.size a := by
  intro a; match a with
  | ⟨0, _⟩ => show 0 + 24 ≤ 24; omega
  | ⟨1, _⟩ => show 128 * g + 128 ≤ 5120; omega

/-- One group's plane lies in the scale planes. -/
theorem inb_plane (g : ℕ) (h : g < 40) : ∀ a, (![g, 0, 0] : Fin 3 → ℕ) a + S1x24x128.size a ≤ S40x24x128.size a := by
  intro a; match a with
  | ⟨0, _⟩ => show g + 1 ≤ 40; omega
  | ⟨1, _⟩ => show 0 + 24 ≤ 24; omega
  | ⟨2, _⟩ => show 0 + 128 ≤ 128; omega

/-- One group's block lies on the diagonal of the left operand. -/
theorem inb_diag (g : ℕ) (h : g < 40) : ∀ a, (![g / 2, 32 * (g % 2), 128 * (g % 2)] : Fin 3 → ℕ) a + S1x32x128.size a ≤ S20x64x256.size a := by
  intro a; match a with
  | ⟨0, _⟩ => show g / 2 + 1 ≤ 20; omega
  | ⟨1, _⟩ => show 32 * (g % 2) + 32 ≤ 64; omega
  | ⟨2, _⟩ => show 128 * (g % 2) + 128 ≤ 256; omega

/-- Column block `g` of the activations. -/
def xblk (x0 : Vec F S24x5120 .bf16) (g : ℕ) (h : g < 40) : Vec F S24x128 .bf16 :=
  View.ld x0 (Rect.unit (s := S24x5120) ![0, 128 * g] S24x128.size (inb_col g h))

/-- A block's codes, as the kernel computes them. -/
def codeP (v : Vec F S24x128 .bf16) : FVec F S24x128 .fp8e4m3 := k0_pay13 (k0_pay6 v) (k0_pay9 v) 23#32
/-- A block's scale, repeated along the block's columns. -/
def xsP (v : Vec F S24x128 .bf16) : FVec F S1x24x128 .f32 := k0_pay12 (k0_pay8 v)
/-- A block's codes under 8 rows of zeros. -/
def lhsP (v : Vec F S24x128 .bf16) : FVec F S1x32x128 .fp8e4m3 := k0_pay14 (k0_pay6 v) (k0_pay9 v) 23#32
/-- The scales array after group `g`, from that before it. -/
def scaleStep (g : ℕ) (v : Vec F S24x128 .bf16) (prev : FVec F S24x40 .f32) : FVec F S24x40 .f32 :=
  select (cmpi .eq (iota .tc S24x40 32 [1] iota_S24x40_d1_w32) (broadcast S24x40 (BitVec.ofNat 32 g)))
    (broadcastTo S24x40 (shapeCast S24x1 (k0_pay8 v) shapeCasts_S24x1_S24x1) broadcasts_S24x1_S24x40) prev
/-- The scales array after the groups below `n`. -/
def scalesN (x0 : Vec F S24x5120 .bf16) : (n : ℕ) → n ≤ 40 → FVec F S24x40 .f32
  | 0, _ => k0_pay4
  | n + 1, h => scaleStep n (xblk x0 n h) (scalesN x0 n (Nat.le_of_succ_le h))

/-- The codes of all the activations. -/
def Cq (x0 : Vec F S24x5120 .bf16) : Vec F S24x5120 .fp8e4m3 := fun y =>
  codeP (xblk x0 ((y 1).val / 128) (by have : (y 1).val < 5120 := (y 1).isLt; omega)) (ix2 (y 0) ⟨(y 1).val % 128, Nat.mod_lt _ (by decide)⟩)
/-- The scales of all the groups. -/
def Sq (x0 : Vec F S24x5120 .bf16) : Vec F S24x40 .f32 := scalesN x0 40 le_rfl
/-- The scales of all the groups, each repeated along its columns. -/
def Xq (x0 : Vec F S24x5120 .bf16) : Vec F S40x24x128 .f32 := fun y =>
  xsP (xblk x0 (y 0).val (y 0).isLt) (ix3 ⟨0, by decide⟩ (y 1) (y 2))
/-- The codes two groups to a plane, on the plane's block diagonal. -/
def Lq (x0 : Vec F S24x5120 .bf16) : Vec F S20x64x256 .fp8e4m3 := fun y =>
  if (y 1).val / 32 = (y 2).val / 128 then
    lhsP (xblk x0 (2 * (y 0).val + (y 2).val / 128) (by have : (y 0).val < 20 := (y 0).isLt; have : (y 2).val < 256 := (y 2).isLt; omega))
      (ix3 ⟨0, by decide⟩ ⟨(y 1).val % 32, Nat.mod_lt _ (by decide)⟩ ⟨(y 2).val % 128, Nat.mod_lt _ (by decide)⟩)
  else k0_pay3 y

/-- The codes at a position of one group are that group's. -/
theorem Cq_of (x0 : Vec F S24x5120 .bf16) (y : S24x5120.Idx) (g : ℕ) (h : g < 40) (x : S24x128.Idx)
    (hg : (y 1).val / 128 = g) (h0 : (x 0).val = (y 0).val) (h1 : (x 1).val = (y 1).val % 128) : codeP (xblk x0 g h) x = Cq x0 y := by
  subst hg
  rw [eq_ix2 x, show x 0 = y 0 from Fin.ext h0, show x 1 = ⟨(y 1).val % 128, Nat.mod_lt _ (by decide)⟩ from Fin.ext h1]
  rfl

/-- The scale planes at a position of one group are that group's. -/
theorem Xq_of (x0 : Vec F S24x5120 .bf16) (y : S40x24x128.Idx) (g : ℕ) (h : g < 40) (x : S1x24x128.Idx)
    (hg : (y 0).val = g) (h1 : (x 1).val = (y 1).val) (h2 : (x 2).val = (y 2).val) : xsP (xblk x0 g h) x = Xq x0 y := by
  subst hg
  have h0 : (x 0).val < 1 := (x 0).isLt
  rw [eq_ix3 x, show x 0 = ⟨0, by decide⟩ from Fin.ext (by show (x 0).val = 0; omega), show x 1 = y 1 from Fin.ext h1, show x 2 = y 2 from Fin.ext h2]
  rfl

/-- The left operand at a position of one group's diagonal block is that group's. -/
theorem Lq_of (x0 : Vec F S24x5120 .bf16) (y : S20x64x256.Idx) (g : ℕ) (h : g < 40) (x : S1x32x128.Idx)
    (hd : (y 1).val / 32 = (y 2).val / 128) (hg : 2 * (y 0).val + (y 2).val / 128 = g)
    (h1 : (x 1).val = (y 1).val % 32) (h2 : (x 2).val = (y 2).val % 128) : lhsP (xblk x0 g h) x = Lq x0 y := by
  subst hg
  have h0 : (x 0).val < 1 := (x 0).isLt
  rw [eq_ix3 x, show x 0 = ⟨0, by decide⟩ from Fin.ext (by show (x 0).val = 0; omega),
    show x 1 = ⟨(y 1).val % 32, Nat.mod_lt _ (by decide)⟩ from Fin.ext h1, show x 2 = ⟨(y 2).val % 128, Nat.mod_lt _ (by decide)⟩ from Fin.ext h2]
  exact (if_pos hd).symm

/-- The writes of the codes' blocks. -/
def codeW (x0 : Vec F S24x5120 .bf16) (g : ℕ) (h : g < 40) : View.Piece (Elt F) S24x5120 .fp8e4m3 :=
  ⟨Rect.unit ![0, 128 * g] S24x128.size (inb_col g h), codeP (xblk x0 g h)⟩
/-- The writes of the repeated scales' planes. -/
def xsW (x0 : Vec F S24x5120 .bf16) (g : ℕ) (h : g < 40) : View.Piece (Elt F) S40x24x128 .f32 :=
  ⟨Rect.unit ![g, 0, 0] S1x24x128.size (inb_plane g h), xsP (xblk x0 g h)⟩
/-- The writes of the diagonal blocks. -/
def lhsW (x0 : Vec F S24x5120 .bf16) (g : ℕ) (h : g < 40) : View.Piece (Elt F) S20x64x256 .fp8e4m3 :=
  ⟨Rect.unit ![g / 2, 32 * (g % 2), 128 * (g % 2)] S1x32x128.size (inb_diag g h), lhsP (xblk x0 g h)⟩

/-- The blocks of codes leave the codes. -/
theorem read_code {sig : RefSig} {κ : Kind} {sp : Space} (v : View sig κ sp S24x5120 .fp8e4m3) (f : v.ty.Contents (Elt F)) (x0 : Vec F S24x5120 .bf16) :
    v.read (Elt F) (v.writes (Elt F) f (upto (codeW x0) [] 40 le_rfl)) = Cq x0 := by
  refine read_upto v f (codeW x0) (Cq x0) ?_ ?_
  · intro g h x
    have h0 : (x 0).val < 24 := (x 0).isLt
    have h1 : (x 1).val < 128 := (x 1).isLt
    have e0 : ((codeW x0 g h).1.emb x 0).val = (x 0).val := (Rect.idx_unit_val (s := S24x5120) ![0, 128 * g] S24x128.size (inb_col g h) x 0).trans (by show 0 + _ = _; exact Nat.zero_add _)
    have e1 : ((codeW x0 g h).1.emb x 1).val = 128 * g + (x 1).val := Rect.idx_unit_val (s := S24x5120) ![0, 128 * g] S24x128.size (inb_col g h) x 1
    have hg : ((codeW x0 g h).1.emb x 1).val / 128 = g := by omega
    have hr : ((codeW x0 g h).1.emb x 1).val % 128 = (x 1).val := by omega
    exact Cq_of x0 _ g h x hg e0.symm hr.symm
  · intro y
    have h1 : (y 1).val < 5120 := (y 1).isLt
    refine ⟨(y 1).val / 128, by omega, (Rect.mem_set_unit (s := S24x5120) (off := ![0, 128 * ((y 1).val / 128)]) (size := S24x128.size) (inb := inb_col _ (by omega))).mpr ?_⟩
    intro a; match a with
    | ⟨0, _⟩ => exact ⟨Nat.zero_le _, by show (y 0).val < 0 + 24; have : (y 0).val < 24 := (y 0).isLt; omega⟩
    | ⟨1, _⟩ => exact ⟨by show 128 * ((y 1).val / 128) ≤ (y 1).val; omega, by show (y 1).val < 128 * ((y 1).val / 128) + 128; omega⟩

/-- The planes of repeated scales leave them. -/
theorem read_xs {sig : RefSig} {κ : Kind} {sp : Space} (v : View sig κ sp S40x24x128 .f32) (f : v.ty.Contents (Elt F)) (x0 : Vec F S24x5120 .bf16) :
    v.read (Elt F) (v.writes (Elt F) f (upto (xsW x0) [] 40 le_rfl)) = Xq x0 := by
  refine read_upto v f (xsW x0) (Xq x0) ?_ ?_
  · intro g h x
    have h0 : (x 0).val < 1 := (x 0).isLt
    have e0 : ((xsW x0 g h).1.emb x 0).val = g := (Rect.idx_unit_val (s := S40x24x128) ![g, 0, 0] S1x24x128.size (inb_plane g h) x 0).trans (by show g + (x 0).val = g; omega)
    have e1 : ((xsW x0 g h).1.emb x 1).val = (x 1).val := (Rect.idx_unit_val (s := S40x24x128) ![g, 0, 0] S1x24x128.size (inb_plane g h) x 1).trans (by show 0 + _ = _; exact Nat.zero_add _)
    have e2 : ((xsW x0 g h).1.emb x 2).val = (x 2).val := (Rect.idx_unit_val (s := S40x24x128) ![g, 0, 0] S1x24x128.size (inb_plane g h) x 2).trans (by show 0 + _ = _; exact Nat.zero_add _)
    exact Xq_of x0 _ g h x e0 e1.symm e2.symm
  · intro y
    refine ⟨(y 0).val, (y 0).isLt, (Rect.mem_set_unit (s := S40x24x128) (off := ![(y 0).val, 0, 0]) (size := S1x24x128.size) (inb := inb_plane _ (y 0).isLt)).mpr ?_⟩
    intro a; match a with
    | ⟨0, _⟩ => exact ⟨le_rfl, Nat.lt_succ_self _⟩
    | ⟨1, _⟩ => exact ⟨Nat.zero_le _, by show (y 1).val < 0 + 24; have : (y 1).val < 24 := (y 1).isLt; omega⟩
    | ⟨2, _⟩ => exact ⟨Nat.zero_le _, by show (y 2).val < 0 + 128; have : (y 2).val < 128 := (y 2).isLt; omega⟩

/-- The diagonal blocks over the zeros. -/
theorem read_lhs {sig : RefSig} {κ : Kind} {sp : Space} (v : View sig κ sp S20x64x256 .fp8e4m3) (f : v.ty.Contents (Elt F)) (x0 : Vec F S24x5120 .bf16) :
    v.read (Elt F) (v.writes (Elt F) f (upto (lhsW x0) [⟨Rect.unit ![0, 0, 0] S20x64x256.size inb_S20x64x256_S20x64x256_0_0_0, k0_pay3⟩] 40 le_rfl)) = Lq x0 := by
  have hz : (![0, 0, 0] : Fin 3 → ℕ) = fun _ => 0 := by funext a; match a with | ⟨0, _⟩ => rfl | ⟨1, _⟩ => rfl | ⟨2, _⟩ => rfl
  refine read_upto_fill v f (lhsW x0) _ (Lq x0) ?_ (fun y => View.mem_set_unit_zero hz inb_S20x64x256_S20x64x256_0_0_0 y) ?_
  · intro g h x
    have h0 : (x 0).val < 1 := (x 0).isLt
    have h1 : (x 1).val < 32 := (x 1).isLt
    have h2 : (x 2).val < 128 := (x 2).isLt
    have e0 : ((lhsW x0 g h).1.emb x 0).val = g / 2 := (Rect.idx_unit_val (s := S20x64x256) ![g / 2, 32 * (g % 2), 128 * (g % 2)] S1x32x128.size (inb_diag g h) x 0).trans (by show g / 2 + (x 0).val = g / 2; omega)
    have e1 : ((lhsW x0 g h).1.emb x 1).val = 32 * (g % 2) + (x 1).val := Rect.idx_unit_val (s := S20x64x256) ![g / 2, 32 * (g % 2), 128 * (g % 2)] S1x32x128.size (inb_diag g h) x 1
    have e2 : ((lhsW x0 g h).1.emb x 2).val = 128 * (g % 2) + (x 2).val := Rect.idx_unit_val (s := S20x64x256) ![g / 2, 32 * (g % 2), 128 * (g % 2)] S1x32x128.size (inb_diag g h) x 2
    have hd : ((lhsW x0 g h).1.emb x 1).val / 32 = ((lhsW x0 g h).1.emb x 2).val / 128 := by omega
    have hg : 2 * ((lhsW x0 g h).1.emb x 0).val + ((lhsW x0 g h).1.emb x 2).val / 128 = g := by omega
    have hr1 : ((lhsW x0 g h).1.emb x 1).val % 32 = (x 1).val := by omega
    have hr2 : ((lhsW x0 g h).1.emb x 2).val % 128 = (x 2).val := by omega
    exact Lq_of x0 _ g h x hd hg hr1.symm hr2.symm
  · intro y
    have h0 : (y 0).val < 20 := (y 0).isLt
    have h1 : (y 1).val < 64 := (y 1).isLt
    have h2 : (y 2).val < 256 := (y 2).isLt
    by_cases hd : (y 1).val / 32 = (y 2).val / 128
    · refine .inl ⟨2 * (y 0).val + (y 2).val / 128, by omega, (Rect.mem_set_unit (s := S20x64x256) (off := ![(2 * (y 0).val + (y 2).val / 128) / 2, 32 * ((2 * (y 0).val + (y 2).val / 128) % 2), 128 * ((2 * (y 0).val + (y 2).val / 128) % 2)]) (size := S1x32x128.size) (inb := inb_diag _ (by omega))).mpr ?_⟩
      intro a; match a with
      | ⟨0, _⟩ => exact ⟨by show (2 * (y 0).val + (y 2).val / 128) / 2 ≤ (y 0).val; omega, by show (y 0).val < (2 * (y 0).val + (y 2).val / 128) / 2 + 1; omega⟩
      | ⟨1, _⟩ => exact ⟨by show 32 * ((2 * (y 0).val + (y 2).val / 128) % 2) ≤ (y 1).val; omega, by show (y 1).val < 32 * ((2 * (y 0).val + (y 2).val / 128) % 2) + 32; omega⟩
      | ⟨2, _⟩ => exact ⟨by show 128 * ((2 * (y 0).val + (y 2).val / 128) % 2) ≤ (y 2).val; omega, by show (y 2).val < 128 * ((2 * (y 0).val + (y 2).val / 128) % 2) + 128; omega⟩
    · refine .inr ?_
      rw [show Lq x0 y = k0_pay3 y from if_neg hd]
      exact congrFun (View.canon_unit_zero (Val := Elt F) (S := S20x64x256) (e := .fp8e4m3) hz inb_S20x64x256_S20x64x256_0_0_0 (k0_pay3 (F := F))) y

/-- One write of the whole scales. -/
theorem read_scales {sig : RefSig} {κ : Kind} {sp : Space} (v : View sig κ sp S24x40 .f32) (f : v.ty.Contents (Elt F)) (w : Vec F S24x40 .f32) :
    v.read (Elt F) (v.writes (Elt F) f [⟨Rect.unit ![0, 0] S24x40.size inb_S24x40_S24x40_0_0, w⟩]) = w := by
  have hz : (![0, 0] : Fin 2 → ℕ) = fun _ => 0 := by funext a; match a with | ⟨0, _⟩ => rfl | ⟨1, _⟩ => rfl
  have hc : ∀ y : S24x40.Idx, ∃ p ∈ [(⟨Rect.unit ![0, 0] S24x40.size inb_S24x40_S24x40_0_0, w⟩ : View.Piece (Elt F) S24x40 .f32)], y ∈ p.1.set := fun y =>
    ⟨_, List.mem_cons_self, View.mem_set_unit_zero (S := S24x40) hz inb_S24x40_S24x40_0_0 y⟩
  exact (View.read_writes_eq_canon v f _ hc).trans (View.canon_unit_zero (Val := Elt F) (S := S24x40) (e := .f32) hz inb_S24x40_S24x40_0_0 w)

/-! ## One block of output columns -/

theorem inb_lhs (k : ℕ) (h : k < 20) : ∀ a, (![k, 0, 0] : Fin 3 → ℕ) a + S1x64x256.size a ≤ S20x64x256.size a := by
  intro a; match a with
  | ⟨0, _⟩ => show k + 1 ≤ 20; omega
  | ⟨1, _⟩ => show 0 + 64 ≤ 64; omega
  | ⟨2, _⟩ => show 0 + 256 ≤ 256; omega

/-- A tile of weights lies in the block of weights. -/
theorem inb_w (c : ℕ) (hc : c < 4) (k : ℕ) (h : k < 20) : ∀ a, (![256 * c, 256 * k] : Fin 2 → ℕ) a + S256x256.size a ≤ S1024x5120.size a := by
  intro a; match a with
  | ⟨0, _⟩ => show 256 * c + 256 ≤ 1024; omega
  | ⟨1, _⟩ => show 256 * k + 256 ≤ 5120; omega

/-- One weight scale lies in the block of weight scales. -/
theorem inb_ws (r : ℕ) (hr : r < 8) (g : ℕ) (h : g < 40) : ∀ a, (![r, g] : Fin 2 → ℕ) a + S1x1.size a ≤ S8x40.size a := by
  intro a; match a with
  | ⟨0, _⟩ => show r + 1 ≤ 8; omega
  | ⟨1, _⟩ => show g + 1 ≤ 40; omega

/-- A quarter of a product tile lies in the tile. -/
theorem slices_half (h b : ℕ) (hh : h < 2) (hb : b < 2) : S64x256.Slices ![32 * h, 128 * b] S24x128 := by
  refine ⟨rfl, fun a => ?_⟩
  match a with
  | ⟨0, _⟩ => show 32 * h + 24 ≤ 64; omega
  | ⟨1, _⟩ => show 128 * b + 128 ≤ 256; omega

/-- The product of plane `k` of the codes with the weights' block of rows `c` and columns `k`. -/
def prodP (l : Vec F S20x64x256 .fp8e4m3) (w : Vec F S1024x5120 .fp8e4m3) (c : ℕ) (hc : c < 4) (k : ℕ) (h : k < 20) : FVec F S64x256 .f32 :=
  k0_pay385 (View.ld l (Rect.unit (s := S20x64x256) ![k, 0, 0] S1x64x256.size (inb_lhs k h)))
    (View.ld w (Rect.unit (s := S1024x5120) ![256 * c, 256 * k] S256x256.size (inb_w c hc k h)))

/-- One weights' scale. -/
def wsAt (ws : Vec F S8x40 .f32) (r : ℕ) (hr : r < 8) (g : ℕ) (h : g < 40) : Elt F .f32 :=
  View.ld ws (Rect.unit (s := S8x40) ![r, g] S1x1.size (inb_ws r hr g h)) (Shape.Idx.first (numel1_S1x1.symm ▸ Nat.one_pos))

/-- What group `g` adds to half `b` of the columns' block `c`. -/
def termP (l : Vec F S20x64x256 .fp8e4m3) (s : Vec F S40x24x128 .f32) (w : Vec F S1024x5120 .fp8e4m3) (ws : Vec F S8x40 .f32)
    (c : ℕ) (hc : c < 4) (b : ℕ) (hb : b < 2) (g : ℕ) (h : g < 40) : FVec F S24x128 .f32 :=
  mulf (extractStridedSlice S24x128 ![32 * (g % 2), 128 * b] (prodP l w c hc (g / 2) (by omega)) (slices_half (g % 2) b (Nat.mod_lt _ (by decide)) hb))
    (mulf (k0_pay386 (View.ld s (Rect.unit (s := S40x24x128) ![g, 0, 0] S1x24x128.size (inb_plane g h))))
      (broadcast S24x128 (wsAt ws (2 * c + b) (by omega) g h)))

/-- The accumulation over the groups below `n`. -/
def accN (l : Vec F S20x64x256 .fp8e4m3) (s : Vec F S40x24x128 .f32) (w : Vec F S1024x5120 .fp8e4m3) (ws : Vec F S8x40 .f32)
    (c : ℕ) (hc : c < 4) (b : ℕ) (hb : b < 2) : (n : ℕ) → n ≤ 40 → FVec F S24x128 .f32
  | 0, _ => broadcast S24x128 (Scalar.ofBits .f32 0x00000000#32)
  | n + 1, h => addf (accN l s w ws c hc b hb n (Nat.le_of_succ_le h)) (termP l s w ws c hc b hb n h)

/-- Block `n` (of 8) of the output's columns. -/
def outP (l : Vec F S20x64x256 .fp8e4m3) (s : Vec F S40x24x128 .f32) (x1 : Vec F S1024x5120 .fp8e4m3) (x2 : Vec F S8x40 .f32)
    (x3 : Vec F S1024x5120 .fp8e4m3) (x4 : Vec F S8x40 .f32) (n : ℕ) (h : n < 8) : FVec F S24x128 .bf16 :=
  k0_pay1 (accN l s x1 x2 (n / 2) (by omega) (n % 2) (Nat.mod_lt _ (by decide)) 40 le_rfl)
    (accN l s x3 x4 (n / 2) (by omega) (n % 2) (Nat.mod_lt _ (by decide)) 40 le_rfl)

/-- A block of output columns lies in the output block. -/
theorem inb_out (n : ℕ) (h : n < 8) : ∀ a, (![0, 128 * n] : Fin 2 → ℕ) a + S24x128.size a ≤ S24x1024.size a := by
  intro a; match a with
  | ⟨0, _⟩ => show 0 + 24 ≤ 24; omega
  | ⟨1, _⟩ => show 128 * n + 128 ≤ 1024; omega

/-- The output block. -/
def Yq (l : Vec F S20x64x256 .fp8e4m3) (s : Vec F S40x24x128 .f32) (x1 : Vec F S1024x5120 .fp8e4m3) (x2 : Vec F S8x40 .f32)
    (x3 : Vec F S1024x5120 .fp8e4m3) (x4 : Vec F S8x40 .f32) : Vec F S24x1024 .bf16 := fun y =>
  outP l s x1 x2 x3 x4 ((y 1).val / 128) (by have : (y 1).val < 1024 := (y 1).isLt; omega) (ix2 (y 0) ⟨(y 1).val % 128, Nat.mod_lt _ (by decide)⟩)

/-- The output at a position of one block of columns is that block's. -/
theorem Yq_of (l : Vec F S20x64x256 .fp8e4m3) (s : Vec F S40x24x128 .f32) (x1 : Vec F S1024x5120 .fp8e4m3) (x2 : Vec F S8x40 .f32)
    (x3 : Vec F S1024x5120 .fp8e4m3) (x4 : Vec F S8x40 .f32) (y : S24x1024.Idx) (g : ℕ) (h : g < 8) (x : S24x128.Idx)
    (hg : (y 1).val / 128 = g) (h0 : (x 0).val = (y 0).val) (h1 : (x 1).val = (y 1).val % 128) :
    outP l s x1 x2 x3 x4 g h x = Yq l s x1 x2 x3 x4 y := by
  subst hg
  rw [eq_ix2 x, show x 0 = y 0 from Fin.ext h0, show x 1 = ⟨(y 1).val % 128, Nat.mod_lt _ (by decide)⟩ from Fin.ext h1]
  rfl

/-- The writes of the output's columns. -/
def outW (l : Vec F S20x64x256 .fp8e4m3) (s : Vec F S40x24x128 .f32) (x1 : Vec F S1024x5120 .fp8e4m3) (x2 : Vec F S8x40 .f32)
    (x3 : Vec F S1024x5120 .fp8e4m3) (x4 : Vec F S8x40 .f32) (n : ℕ) (h : n < 8) : View.Piece (Elt F) S24x1024 .bf16 :=
  ⟨Rect.unit ![0, 128 * n] S24x128.size (inb_out n h), outP l s x1 x2 x3 x4 n h⟩

/-- The blocks of columns leave the output block. -/
theorem read_out {sig : RefSig} {κ : Kind} {sp : Space} (v : View sig κ sp S24x1024 .bf16) (f : v.ty.Contents (Elt F))
    (l : Vec F S20x64x256 .fp8e4m3) (s : Vec F S40x24x128 .f32) (x1 : Vec F S1024x5120 .fp8e4m3) (x2 : Vec F S8x40 .f32)
    (x3 : Vec F S1024x5120 .fp8e4m3) (x4 : Vec F S8x40 .f32) :
    v.read (Elt F) (v.writes (Elt F) f (upto (outW l s x1 x2 x3 x4) [] 8 le_rfl)) = Yq l s x1 x2 x3 x4 := by
  refine read_upto v f (outW l s x1 x2 x3 x4) (Yq l s x1 x2 x3 x4) ?_ ?_
  · intro g h x
    have h1 : (x 1).val < 128 := (x 1).isLt
    have e0 : ((outW l s x1 x2 x3 x4 g h).1.emb x 0).val = (x 0).val := (Rect.idx_unit_val (s := S24x1024) ![0, 128 * g] S24x128.size (inb_out g h) x 0).trans (by show 0 + _ = _; exact Nat.zero_add _)
    have e1 : ((outW l s x1 x2 x3 x4 g h).1.emb x 1).val = 128 * g + (x 1).val := Rect.idx_unit_val (s := S24x1024) ![0, 128 * g] S24x128.size (inb_out g h) x 1
    have hg : ((outW l s x1 x2 x3 x4 g h).1.emb x 1).val / 128 = g := by omega
    have hr : ((outW l s x1 x2 x3 x4 g h).1.emb x 1).val % 128 = (x 1).val := by omega
    exact Yq_of l s x1 x2 x3 x4 _ g h x hg e0.symm hr.symm
  · intro y
    have h1 : (y 1).val < 1024 := (y 1).isLt
    refine ⟨(y 1).val / 128, by omega, (Rect.mem_set_unit (s := S24x1024) (off := ![0, 128 * ((y 1).val / 128)]) (size := S24x128.size) (inb := inb_out _ (by omega))).mpr ?_⟩
    intro a; match a with
    | ⟨0, _⟩ => exact ⟨Nat.zero_le _, by show (y 0).val < 0 + 24; have : (y 0).val < 24 := (y 0).isLt; omega⟩
    | ⟨1, _⟩ => exact ⟨by show 128 * ((y 1).val / 128) ≤ (y 1).val; omega, by show (y 1).val < 128 * ((y 1).val / 128) + 128; omega⟩

end Cert.KernelIdeal.Run

end
-- ==== Proof.Quantise.lean ====
/-
   The quantisation the kernel runs at its first grid point. -/
module

public import proofs.«01_k».proof.Proof.Gen.KernelIdeal.Frame
public import proofs.«01_k».proof.Proof.Gen.KernelIdeal.Skeleton
public import proofs.«01_k».proof.Proof.Named

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the kernel does at grid point 0 before its products: the quantisation of the 40 groups. -/
def quantProg (i : grid0.Coords) (arg1 : Memref sig .tc .vmem S24x5120 .bf16) (harg1 : arg1.IsWhole) (arg2 : Memref sig .tc .vmem S1024x5120 .fp8e4m3) (harg2 : arg2.IsWhole) (arg3 : Memref sig .tc .smem S8x40 .f32) (harg3 : arg3.IsWhole) (arg4 : Memref sig .tc .vmem S1024x5120 .fp8e4m3) (harg4 : arg4.IsWhole) (arg5 : Memref sig .tc .smem S8x40 .f32) (harg5 : arg5.IsWhole) (arg6 : Memref sig .tc .vmem S24x1024 .bf16) (harg6 : arg6.IsWhole) (arg7 : Memref sig .tc .vmem S24x5120 .fp8e4m3) (harg7 : arg7.IsWhole) (arg8 : Memref sig .tc .vmem S24x40 .f32) (harg8 : arg8.IsWhole) (arg9 : Memref sig .tc .vmem S20x64x256 .fp8e4m3) (harg9 : arg9.IsWhole) (arg10 : Memref sig .tc .vmem S40x24x128 .f32) (harg10 : arg10.IsWhole)  {α : Type} (k : Prog (TpuEff nD τ sig (Elt F) Λ₀ .tc) α) :
    Prog (TpuEff nD τ sig (Elt F) Λ₀ .tc) α := do
  let ⟨v5183, v5184, v5188, v5191, v5216, v5218, c23_i32_3183⟩ : Σ' (v5183 : IVec S24x40 32) (v5184 : FVec F S24x40 .f32) (v5188 : FVec F S24x256 .f32) (v5191 : FVec F S24x128 .f32) (v5216 : FVec F S24x1 .f32) (v5218 : IVec S24x1 32), BitVec 32 ← k0_part1 i arg1 harg1 arg2 harg2 arg3 harg3 arg4 harg4 arg5 harg5 arg6 harg6 arg7 harg7 arg8 harg8 arg9 harg9 arg10 harg10
  let ⟨v5232, v5248, v5258⟩ : Σ' (v5232 : FVec F S24x40 .f32) (v5248 : FVec F S24x128 .f32), FVec F S24 .f32 ← k0_part2 i arg1 harg1 arg2 harg2 arg3 harg3 arg4 harg4 arg5 harg5 arg6 harg6 arg7 harg7 arg8 harg8 arg9 harg9 arg10 harg10 v5183 v5184 v5188 v5191 v5216 v5218 c23_i32_3183
  let ⟨v5289, v5299⟩ : Σ' (v5289 : FVec F S24x40 .f32), FVec F S32x128 .fp8e4m3 ← k0_part3 i arg1 harg1 arg2 harg2 arg3 harg3 arg4 harg4 arg5 harg5 arg6 harg6 arg7 harg7 arg8 harg8 arg9 harg9 arg10 harg10 v5183 v5232 v5248 v5258
  let ⟨v5330, v5339, v5340⟩ : Σ' (v5330 : FVec F S24x1 .f32) (v5339 : FVec F S24x128 .f32), FVec F S24x128 .f32 ← k0_part4 i arg1 harg1 arg2 harg2 arg3 harg3 arg4 harg4 arg5 harg5 arg6 harg6 arg7 harg7 arg8 harg8 arg9 harg9 arg10 harg10 v5188 v5299
  let ⟨v5346, v5362, v5376, v5378, v5379⟩ : Σ' (v5346 : FVec F S24x40 .f32) (v5362 : FVec F S24x128 .f32) (v5376 : IVec S24x1 32) (v5378 : IVec S24x1 1), IVec S24x1 32 ← k0_part5 i arg1 harg1 arg2 harg2 arg3 harg3 arg4 harg4 arg5 harg5 arg6 harg6 arg7 harg7 arg8 harg8 arg9 harg9 arg10 harg10 v5183 v5188 v5289 v5330 v5339 v5340
  let ⟨v5403, v5417⟩ : Σ' (v5403 : FVec F S24x40 .f32), Vec F S24x128 .bf16 ← k0_part6 i arg1 harg1 arg2 harg2 arg3 harg3 arg4 harg4 arg5 harg5 arg6 harg6 arg7 harg7 arg8 harg8 arg9 harg9 arg10 harg10 v5183 v5346 v5362 v5376 v5378 v5379
  let ⟨v5455, v5460, v5462⟩ : Σ' (v5455 : FVec F S24x128 .f32) (v5460 : FVec F S24x40 .f32), FVec F S24x128 .f32 ← k0_part7 i arg1 harg1 arg2 harg2 arg3 harg3 arg4 harg4 arg5 harg5 arg6 harg6 arg7 harg7 arg8 harg8 arg9 harg9 arg10 harg10 v5183 v5188 v5403 v5417
  let ⟨v5476, v5496, v5500⟩ : Σ' (v5476 : FVec F S24x128 .f32) (v5496 : IVec S24x1 32), IVec S24x1 32 ← k0_part8 i arg1 harg1 arg2 harg2 arg3 harg3 arg4 harg4 arg5 harg5 arg6 harg6 arg7 harg7 arg8 harg8 arg9 harg9 arg10 harg10 v5188 v5455 v5462
  let ⟨v5517, v5533, v5539⟩ : Σ' (v5517 : FVec F S24x40 .f32) (v5533 : FVec F S24x128 .f32), FVec F S24x256 .f32 ← k0_part9 i arg1 harg1 arg2 harg2 arg3 harg3 arg4 harg4 arg5 harg5 arg6 harg6 arg7 harg7 arg8 harg8 arg9 harg9 arg10 harg10 v5183 v5460 v5476 v5496 v5500
  let ⟨v5569, v5574, v5580⟩ : Σ' (v5569 : FVec F S24x128 .f32) (v5574 : FVec F S24x40 .f32), FVec F S24x128 .fp8e4m3 ← k0_part10 i arg1 harg1 arg2 harg2 arg3 harg3 arg4 harg4 arg5 harg5 arg6 harg6 arg7 harg7 arg8 harg8 arg9 harg9 arg10 harg10 v5183 v5188 v5517 v5533 v5539
  let ⟨v5615, v5622⟩ : Σ' (v5615 : FVec F S24x1 .f32), FVec F S24x128 .f32 ← k0_part11 i arg1 harg1 arg2 harg2 arg3 harg3 arg4 harg4 arg5 harg5 arg6 harg6 arg7 harg7 arg8 harg8 arg9 harg9 arg10 harg10 v5188 v5569 v5580
  let ⟨v5631, v5647, v5661⟩ : Σ' (v5631 : FVec F S24x40 .f32) (v5647 : FVec F S24x128 .f32), IVec S24x1 32 ← k0_part12 i arg1 harg1 arg2 harg2 arg3 harg3 arg4 harg4 arg5 harg5 arg6 harg6 arg7 harg7 arg8 harg8 arg9 harg9 arg10 harg10 v5183 v5188 v5574 v5615 v5622
  let ⟨v5688, v5698⟩ : Σ' (v5688 : FVec F S24x40 .f32), FVec F S32x128 .fp8e4m3 ← k0_part13 i arg1 harg1 arg2 harg2 arg3 harg3 arg4 harg4 arg5 harg5 arg6 harg6 arg7 harg7 arg8 harg8 arg9 harg9 arg10 harg10 v5183 v5631 v5647 v5661
  let ⟨v5729, v5740, v5742, v5743⟩ : Σ' (v5729 : FVec F S24x1 .f32) (v5740 : FVec F S24x128 .f32) (v5742 : IVec S24x40 1), FVec F S24x1 .f32 ← k0_part14 i arg1 harg1 arg2 harg2 arg3 harg3 arg4 harg4 arg5 harg5 arg6 harg6 arg7 harg7 arg8 harg8 arg9 harg9 arg10 harg10 v5183 v5188 v5698
  let ⟨v5745, v5761, v5781, c127_i32_3421⟩ : Σ' (v5745 : FVec F S24x40 .f32) (v5761 : FVec F S24x128 .f32) (v5781 : IVec S24x1 32), BitVec 32 ← k0_part15 i arg1 harg1 arg2 harg2 arg3 harg3 arg4 harg4 arg5 harg5 arg6 harg6 arg7 harg7 arg8 harg8 arg9 harg9 arg10 harg10 v5188 v5688 v5729 v5740 v5742 v5743
  let ⟨v5802, v5818, v5820⟩ : Σ' (v5802 : FVec F S24x40 .f32) (v5818 : FVec F S24x128 .f32), FVec F S24 .f32 ← k0_part16 i arg1 harg1 arg2 harg2 arg3 harg3 arg4 harg4 arg5 harg5 arg6 harg6 arg7 harg7 arg8 harg8 arg9 harg9 arg10 harg10 v5183 v5745 v5761 v5781 c127_i32_3421
  let ⟨v5854, v5859, v5864⟩ : Σ' (v5854 : FVec F S24x128 .f32) (v5859 : FVec F S24x40 .f32), FVec F S1x24x128 .f32 ← k0_part17 i arg1 harg1 arg2 harg2 arg3 harg3 arg4 harg4 arg5 harg5 arg6 harg6 arg7 harg7 arg8 harg8 arg9 harg9 arg10 harg10 v5183 v5188 v5802 v5818 v5820
  let ⟨v5875, v5900, v5902, c23_i32_3471⟩ : Σ' (v5875 : FVec F S24x128 .f32) (v5900 : FVec F S24x1 .f32) (v5902 : IVec S24x1 32), BitVec 32 ← k0_part18 i arg1 harg1 arg2 harg2 arg3 harg3 arg4 harg4 arg5 harg5 arg6 harg6 arg7 harg7 arg8 harg8 arg9 harg9 arg10 harg10 v5188 v5854 v5864
  let ⟨v5916, v5932, v5942⟩ : Σ' (v5916 : FVec F S24x40 .f32) (v5932 : FVec F S24x128 .f32), FVec F S24 .f32 ← k0_part19 i arg1 harg1 arg2 harg2 arg3 harg3 arg4 harg4 arg5 harg5 arg6 harg6 arg7 harg7 arg8 harg8 arg9 harg9 arg10 harg10 v5183 v5188 v5859 v5875 v5900 v5902 c23_i32_3471
  let ⟨v5973, v5983⟩ : Σ' (v5973 : FVec F S24x40 .f32), FVec F S32x128 .fp8e4m3 ← k0_part20 i arg1 harg1 arg2 harg2 arg3 harg3 arg4 harg4 arg5 harg5 arg6 harg6 arg7 harg7 arg8 harg8 arg9 harg9 arg10 harg10 v5183 v5916 v5932 v5942
  let ⟨v6014, v6023, v6024⟩ : Σ' (v6014 : FVec F S24x1 .f32) (v6023 : FVec F S24x128 .f32), FVec F S24x128 .f32 ← k0_part21 i arg1 harg1 arg2 harg2 arg3 harg3 arg4 harg4 arg5 harg5 arg6 harg6 arg7 harg7 arg8 harg8 arg9 harg9 arg10 harg10 v5188 v5983
  let ⟨v6030, v6046, v6060, v6062, v6063⟩ : Σ' (v6030 : FVec F S24x40 .f32) (v6046 : FVec F S24x128 .f32) (v6060 : IVec S24x1 32) (v6062 : IVec S24x1 1), IVec S24x1 32 ← k0_part22 i arg1 harg1 arg2 harg2 arg3 harg3 arg4 harg4 arg5 harg5 arg6 harg6 arg7 harg7 arg8 harg8 arg9 harg9 arg10 harg10 v5183 v5188 v5973 v6014 v6023 v6024
  let ⟨v6087, v6101⟩ : Σ' (v6087 : FVec F S24x40 .f32), Vec F S24x128 .bf16 ← k0_part23 i arg1 harg1 arg2 harg2 arg3 harg3 arg4 harg4 arg5 harg5 arg6 harg6 arg7 harg7 arg8 harg8 arg9 harg9 arg10 harg10 v5183 v6030 v6046 v6060 v6062 v6063
  let ⟨v6139, v6144, v6146⟩ : Σ' (v6139 : FVec F S24x128 .f32) (v6144 : FVec F S24x40 .f32), FVec F S24x128 .f32 ← k0_part24 i arg1 harg1 arg2 harg2 arg3 harg3 arg4 harg4 arg5 harg5 arg6 harg6 arg7 harg7 arg8 harg8 arg9 harg9 arg10 harg10 v5183 v5188 v6087 v6101
  let ⟨v6160, v6180, v6184⟩ : Σ' (v6160 : FVec F S24x128 .f32) (v6180 : IVec S24x1 32), IVec S24x1 32 ← k0_part25 i arg1 harg1 arg2 harg2 arg3 harg3 arg4 harg4 arg5 harg5 arg6 harg6 arg7 harg7 arg8 harg8 arg9 harg9 arg10 harg10 v5188 v6139 v6146
  let ⟨v6201, v6217, v6223⟩ : Σ' (v6201 : FVec F S24x40 .f32) (v6217 : FVec F S24x128 .f32), FVec F S24x256 .f32 ← k0_part26 i arg1 harg1 arg2 harg2 arg3 harg3 arg4 harg4 arg5 harg5 arg6 harg6 arg7 harg7 arg8 harg8 arg9 harg9 arg10 harg10 v5183 v6144 v6160 v6180 v6184
  let ⟨v6253, v6258, v6264⟩ : Σ' (v6253 : FVec F S24x128 .f32) (v6258 : FVec F S24x40 .f32), FVec F S24x128 .fp8e4m3 ← k0_part27 i arg1 harg1 arg2 harg2 arg3 harg3 arg4 harg4 arg5 harg5 arg6 harg6 arg7 harg7 arg8 harg8 arg9 harg9 arg10 harg10 v5183 v5188 v6201 v6217 v6223
  let ⟨v6299, v6306⟩ : Σ' (v6299 : FVec F S24x1 .f32), FVec F S24x128 .f32 ← k0_part28 i arg1 harg1 arg2 harg2 arg3 harg3 arg4 harg4 arg5 harg5 arg6 harg6 arg7 harg7 arg8 harg8 arg9 harg9 arg10 harg10 v5188 v6253 v6264
  let ⟨v6315, v6331, v6345⟩ : Σ' (v6315 : FVec F S24x40 .f32) (v6331 : FVec F S24x128 .f32), IVec S24x1 32 ← k0_part29 i arg1 harg1 arg2 harg2 arg3 harg3 arg4 harg4 arg5 harg5 arg6 harg6 arg7 harg7 arg8 harg8 arg9 harg9 arg10 harg10 v5183 v5188 v6258 v6299 v6306
  let ⟨v6372, v6382⟩ : Σ' (v6372 : FVec F S24x40 .f32), FVec F S32x128 .fp8e4m3 ← k0_part30 i arg1 harg1 arg2 harg2 arg3 harg3 arg4 harg4 arg5 harg5 arg6 harg6 arg7 harg7 arg8 harg8 arg9 harg9 arg10 harg10 v5183 v6315 v6331 v6345
  let ⟨v6413, v6424, v6426, v6427⟩ : Σ' (v6413 : FVec F S24x1 .f32) (v6424 : FVec F S24x128 .f32) (v6426 : IVec S24x40 1), FVec F S24x1 .f32 ← k0_part31 i arg1 harg1 arg2 harg2 arg3 harg3 arg4 harg4 arg5 harg5 arg6 harg6 arg7 harg7 arg8 harg8 arg9 harg9 arg10 harg10 v5183 v5188 v6382
  let ⟨v6429, v6445, v6465, c127_i32_3703⟩ : Σ' (v6429 : FVec F S24x40 .f32) (v6445 : FVec F S24x128 .f32) (v6465 : IVec S24x1 32), BitVec 32 ← k0_part32 i arg1 harg1 arg2 harg2 arg3 harg3 arg4 harg4 arg5 harg5 arg6 harg6 arg7 harg7 arg8 harg8 arg9 harg9 arg10 harg10 v5188 v6372 v6413 v6424 v6426 v6427
  let ⟨v6486, v6502, v6504⟩ : Σ' (v6486 : FVec F S24x40 .f32) (v6502 : FVec F S24x128 .f32), FVec F S24 .f32 ← k0_part33 i arg1 harg1 arg2 harg2 arg3 harg3 arg4 harg4 arg5 harg5 arg6 harg6 arg7 harg7 arg8 harg8 arg9 harg9 arg10 harg10 v5183 v6429 v6445 v6465 c127_i32_3703
  let ⟨v6538, v6543, v6548⟩ : Σ' (v6538 : FVec F S24x128 .f32) (v6543 : FVec F S24x40 .f32), FVec F S1x24x128 .f32 ← k0_part34 i arg1 harg1 arg2 harg2 arg3 harg3 arg4 harg4 arg5 harg5 arg6 harg6 arg7 harg7 arg8 harg8 arg9 harg9 arg10 harg10 v5183 v5188 v6486 v6502 v6504
  let ⟨v6559, v6584, v6586, c23_i32_3754⟩ : Σ' (v6559 : FVec F S24x128 .f32) (v6584 : FVec F S24x1 .f32) (v6586 : IVec S24x1 32), BitVec 32 ← k0_part35 i arg1 harg1 arg2 harg2 arg3 harg3 arg4 harg4 arg5 harg5 arg6 harg6 arg7 harg7 arg8 harg8 arg9 harg9 arg10 harg10 v5188 v6538 v6548
  let ⟨v6600, v6616, v6626⟩ : Σ' (v6600 : FVec F S24x40 .f32) (v6616 : FVec F S24x128 .f32), FVec F S24 .f32 ← k0_part36 i arg1 harg1 arg2 harg2 arg3 harg3 arg4 harg4 arg5 harg5 arg6 harg6 arg7 harg7 arg8 harg8 arg9 harg9 arg10 harg10 v5183 v5188 v6543 v6559 v6584 v6586 c23_i32_3754
  let ⟨v6657, v6667⟩ : Σ' (v6657 : FVec F S24x40 .f32), FVec F S32x128 .fp8e4m3 ← k0_part37 i arg1 harg1 arg2 harg2 arg3 harg3 arg4 harg4 arg5 harg5 arg6 harg6 arg7 harg7 arg8 harg8 arg9 harg9 arg10 harg10 v5183 v6600 v6616 v6626
  let ⟨v6698, v6707, v6708⟩ : Σ' (v6698 : FVec F S24x1 .f32) (v6707 : FVec F S24x128 .f32), FVec F S24x128 .f32 ← k0_part38 i arg1 harg1 arg2 harg2 arg3 harg3 arg4 harg4 arg5 harg5 arg6 harg6 arg7 harg7 arg8 harg8 arg9 harg9 arg10 harg10 v5188 v6667
  let ⟨v6714, v6730, v6744, v6746, v6747⟩ : Σ' (v6714 : FVec F S24x40 .f32) (v6730 : FVec F S24x128 .f32) (v6744 : IVec S24x1 32) (v6746 : IVec S24x1 1), IVec S24x1 32 ← k0_part39 i arg1 harg1 arg2 harg2 arg3 harg3 arg4 harg4 arg5 harg5 arg6 harg6 arg7 harg7 arg8 harg8 arg9 harg9 arg10 harg10 v5183 v5188 v6657 v6698 v6707 v6708
  let ⟨v6771, v6785⟩ : Σ' (v6771 : FVec F S24x40 .f32), Vec F S24x128 .bf16 ← k0_part40 i arg1 harg1 arg2 harg2 arg3 harg3 arg4 harg4 arg5 harg5 arg6 harg6 arg7 harg7 arg8 harg8 arg9 harg9 arg10 harg10 v5183 v6714 v6730 v6744 v6746 v6747
  let ⟨v6823, v6828, v6830⟩ : Σ' (v6823 : FVec F S24x128 .f32) (v6828 : FVec F S24x40 .f32), FVec F S24x128 .f32 ← k0_part41 i arg1 harg1 arg2 harg2 arg3 harg3 arg4 harg4 arg5 harg5 arg6 harg6 arg7 harg7 arg8 harg8 arg9 harg9 arg10 harg10 v5183 v5188 v6771 v6785
  let ⟨v6844, v6864, v6868⟩ : Σ' (v6844 : FVec F S24x128 .f32) (v6864 : IVec S24x1 32), IVec S24x1 32 ← k0_part42 i arg1 harg1 arg2 harg2 arg3 harg3 arg4 harg4 arg5 harg5 arg6 harg6 arg7 harg7 arg8 harg8 arg9 harg9 arg10 harg10 v5188 v6823 v6830
  let ⟨v6885, v6901, v6907⟩ : Σ' (v6885 : FVec F S24x40 .f32) (v6901 : FVec F S24x128 .f32), FVec F S24x256 .f32 ← k0_part43 i arg1 harg1 arg2 harg2 arg3 harg3 arg4 harg4 arg5 harg5 arg6 harg6 arg7 harg7 arg8 harg8 arg9 harg9 arg10 harg10 v5183 v6828 v6844 v6864 v6868
  let ⟨v6937, v6942, v6948⟩ : Σ' (v6937 : FVec F S24x128 .f32) (v6942 : FVec F S24x40 .f32), FVec F S24x128 .fp8e4m3 ← k0_part44 i arg1 harg1 arg2 harg2 arg3 harg3 arg4 harg4 arg5 harg5 arg6 harg6 arg7 harg7 arg8 harg8 arg9 harg9 arg10 harg10 v5183 v5188 v6885 v6901 v6907
  let ⟨v6983, v6990⟩ : Σ' (v6983 : FVec F S24x1 .f32), FVec F S24x128 .f32 ← k0_part45 i arg1 harg1 arg2 harg2 arg3 harg3 arg4 harg4 arg5 harg5 arg6 harg6 arg7 harg7 arg8 harg8 arg9 harg9 arg10 harg10 v5188 v6937 v6948
  let ⟨v6999, v7015, v7029⟩ : Σ' (v6999 : FVec F S24x40 .f32) (v7015 : FVec F S24x128 .f32), IVec S24x1 32 ← k0_part46 i arg1 harg1 arg2 harg2 arg3 harg3 arg4 harg4 arg5 harg5 arg6 harg6 arg7 harg7 arg8 harg8 arg9 harg9 arg10 harg10 v5183 v5188 v6942 v6983 v6990
  let ⟨v7056, v7066⟩ : Σ' (v7056 : FVec F S24x40 .f32), FVec F S32x128 .fp8e4m3 ← k0_part47 i arg1 harg1 arg2 harg2 arg3 harg3 arg4 harg4 arg5 harg5 arg6 harg6 arg7 harg7 arg8 harg8 arg9 harg9 arg10 harg10 v5183 v6999 v7015 v7029
  let ⟨v7097, v7108, v7110, v7111⟩ : Σ' (v7097 : FVec F S24x1 .f32) (v7108 : FVec F S24x128 .f32) (v7110 : IVec S24x40 1), FVec F S24x1 .f32 ← k0_part48 i arg1 harg1 arg2 harg2 arg3 harg3 arg4 harg4 arg5 harg5 arg6 harg6 arg7 harg7 arg8 harg8 arg9 harg9 arg10 harg10 v5183 v5188 v7066
  let ⟨v7113, v7129, v7149, c127_i32_3986⟩ : Σ' (v7113 : FVec F S24x40 .f32) (v7129 : FVec F S24x128 .f32) (v7149 : IVec S24x1 32), BitVec 32 ← k0_part49 i arg1 harg1 arg2 harg2 arg3 harg3 arg4 harg4 arg5 harg5 arg6 harg6 arg7 harg7 arg8 harg8 arg9 harg9 arg10 harg10 v5188 v7056 v7097 v7108 v7110 v7111
  let ⟨v7170, v7186, v7188⟩ : Σ' (v7170 : FVec F S24x40 .f32) (v7186 : FVec F S24x128 .f32), FVec F S24 .f32 ← k0_part50 i arg1 harg1 arg2 harg2 arg3 harg3 arg4 harg4 arg5 harg5 arg6 harg6 arg7 harg7 arg8 harg8 arg9 harg9 arg10 harg10 v5183 v7113 v7129 v7149 c127_i32_3986
  let ⟨v7222, v7227, v7232⟩ : Σ' (v7222 : FVec F S24x128 .f32) (v7227 : FVec F S24x40 .f32), FVec F S1x24x128 .f32 ← k0_part51 i arg1 harg1 arg2 harg2 arg3 harg3 arg4 harg4 arg5 harg5 arg6 harg6 arg7 harg7 arg8 harg8 arg9 harg9 arg10 harg10 v5183 v5188 v7170 v7186 v7188
  let ⟨v7243, v7268, v7270, c23_i32_4036⟩ : Σ' (v7243 : FVec F S24x128 .f32) (v7268 : FVec F S24x1 .f32) (v7270 : IVec S24x1 32), BitVec 32 ← k0_part52 i arg1 harg1 arg2 harg2 arg3 harg3 arg4 harg4 arg5 harg5 arg6 harg6 arg7 harg7 arg8 harg8 arg9 harg9 arg10 harg10 v5188 v7222 v7232
  let ⟨v7284, v7300, v7310⟩ : Σ' (v7284 : FVec F S24x40 .f32) (v7300 : FVec F S24x128 .f32), FVec F S24 .f32 ← k0_part53 i arg1 harg1 arg2 harg2 arg3 harg3 arg4 harg4 arg5 harg5 arg6 harg6 arg7 harg7 arg8 harg8 arg9 harg9 arg10 harg10 v5183 v5188 v7227 v7243 v7268 v7270 c23_i32_4036
  let ⟨v7341, v7351⟩ : Σ' (v7341 : FVec F S24x40 .f32), FVec F S32x128 .fp8e4m3 ← k0_part54 i arg1 harg1 arg2 harg2 arg3 harg3 arg4 harg4 arg5 harg5 arg6 harg6 arg7 harg7 arg8 harg8 arg9 harg9 arg10 harg10 v5183 v7284 v7300 v7310
  let ⟨v7382, v7391, v7392⟩ : Σ' (v7382 : FVec F S24x1 .f32) (v7391 : FVec F S24x128 .f32), FVec F S24x128 .f32 ← k0_part55 i arg1 harg1 arg2 harg2 arg3 harg3 arg4 harg4 arg5 harg5 arg6 harg6 arg7 harg7 arg8 harg8 arg9 harg9 arg10 harg10 v5188 v7351
  let ⟨v7398, v7414, v7428, v7430, v7431⟩ : Σ' (v7398 : FVec F S24x40 .f32) (v7414 : FVec F S24x128 .f32) (v7428 : IVec S24x1 32) (v7430 : IVec S24x1 1), IVec S24x1 32 ← k0_part56 i arg1 harg1 arg2 harg2 arg3 harg3 arg4 harg4 arg5 harg5 arg6 harg6 arg7 harg7 arg8 harg8 arg9 harg9 arg10 harg10 v5183 v5188 v7341 v7382 v7391 v7392
  let v7455 : FVec F S24x40 .f32 ← k0_part57 i arg1 harg1 arg2 harg2 arg3 harg3 arg4 harg4 arg5 harg5 arg6 harg6 arg7 harg7 arg8 harg8 arg9 harg9 arg10 harg10 v5183 v7398 v7414 v7428 v7430 v7431
  Prog.lift (.store arg8 (Rect.unit (s := S24x40) ![0, 0] S24x40.size inb_S24x40_S24x40_0_0) v7455 Finset.univ (View.stores_vmem_bits_univ h_S24x40 rfl) (.inl rfl))
  k

set_option maxHeartbeats 20000000 in
/-- The quantisation at point 0, as a triple: from the activations' block it leaves the codes, the scales and the two scratch
    buffers at what it computes of that block. -/
theorem quant_run (c : Dev nD) (i : grid0.Coords) (arg1 : Memref sig .tc .vmem S24x5120 .bf16) (harg1 : arg1.IsWhole) (arg2 : Memref sig .tc .vmem S1024x5120 .fp8e4m3) (harg2 : arg2.IsWhole) (arg3 : Memref sig .tc .smem S8x40 .f32) (harg3 : arg3.IsWhole) (arg4 : Memref sig .tc .vmem S1024x5120 .fp8e4m3) (harg4 : arg4.IsWhole) (arg5 : Memref sig .tc .smem S8x40 .f32) (harg5 : arg5.IsWhole) (arg6 : Memref sig .tc .vmem S24x1024 .bf16) (harg6 : arg6.IsWhole) (arg7 : Memref sig .tc .vmem S24x5120 .fp8e4m3) (harg7 : arg7.IsWhole) (arg8 : Memref sig .tc .vmem S24x40 .f32) (harg8 : arg8.IsWhole) (arg9 : Memref sig .tc .vmem S20x64x256 .fp8e4m3) (harg9 : arg9.IsWhole) (arg10 : Memref sig .tc .vmem S40x24x128 .f32) (harg10 : arg10.IsWhole)
    (x0 : Vec F S24x5120 .bf16) (E : Set ℕ) {α : Type} (k : Prog (TpuEff nD τ sig (Elt F) Λ₀ .tc) α) (K : α → sProp 𝕄) :
    iprop(owns (c : Thread nD τ) arg1 fullShare x0 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg7 fullShare (Cq x0) ∗ owns (c : Thread nD τ) arg8 fullShare (Sq x0) ∗ owns (c : Thread nD τ) arg9 fullShare (Lq x0) ∗ owns (c : Thread nD τ) arg10 fullShare (Xq x0)) -∗ wp frame (wpE (defs₀ (F := F)) Variants.none c none) E k K))
      ⊢ wp frame (wpE (defs₀ (F := F)) Variants.none c none) E (quantProg i arg1 harg1 arg2 harg2 arg3 harg3 arg4 harg4 arg5 harg5 arg6 harg6 arg7 harg7 arg8 harg8 arg9 harg9 arg10 harg10 k) K := by
  unfold quantProg
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
  unfold owns
  iintro ⟨⟨%f0, %hf0, H0⟩, ⟨%d6, %f6, -, H6⟩, ⟨%d7, %f7, -, H7⟩, ⟨%ds0, %fs0, -, HS0⟩, ⟨%ds1, %fs1, -, HS1⟩, Hk⟩
  obtain rfl := harg1.eq_unread hf0
  sl_exec
  iapply Hk
  isplitl [H0]
  · iexists _; isplitr; · ipureintro; exact harg1.read_unread _
    iexact H0
  isplitl [H6]
  · iexists _; isplitr; swap; · iexact H6
    ipureintro; exact (read_code arg7.view f6 (arg1.view.read (Elt F) (harg1.unread x0))).trans (congrArg Cq (harg1.read_unread _))
  isplitl [H7]
  · iexists _; isplitr; swap; · iexact H7
    ipureintro; exact ((read_scales arg8.view f7 _).trans (show _ = Sq (arg1.view.read (Elt F) (harg1.unread x0)) from rfl)).trans (congrArg Sq (harg1.read_unread _))
  isplitl [HS0]
  · iexists _; isplitr; swap; · iexact HS0
    ipureintro; exact (read_lhs arg9.view fs0 (arg1.view.read (Elt F) (harg1.unread x0))).trans (congrArg Lq (harg1.read_unread _))
  iexists _; isplitr; swap; · iexact HS1
  ipureintro; exact (read_xs arg10.view fs1 (arg1.view.read (Elt F) (harg1.unread x0))).trans (congrArg Xq (harg1.read_unread _))

end Cert.KernelIdeal.Run

end
-- ==== Proof.BodyRun.lean ====
/-
   The body around its first part, and the products after it. -/
module

public import proofs.«01_k».proof.Proof.Gen.KernelIdeal.Frame
public import proofs.«01_k».proof.Proof.Gen.KernelIdeal.Skeleton
public import proofs.«01_k».proof.Proof.Named
public import proofs.«01_k».proof.Proof.Quantise

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first part: the quantisation at grid point 0, nothing elsewhere. -/
def firstProg (i : grid0.Coords) (arg1 : Memref sig .tc .vmem S24x5120 .bf16) (harg1 : arg1.IsWhole) (arg2 : Memref sig .tc .vmem S1024x5120 .fp8e4m3) (harg2 : arg2.IsWhole) (arg3 : Memref sig .tc .smem S8x40 .f32) (harg3 : arg3.IsWhole) (arg4 : Memref sig .tc .vmem S1024x5120 .fp8e4m3) (harg4 : arg4.IsWhole) (arg5 : Memref sig .tc .smem S8x40 .f32) (harg5 : arg5.IsWhole) (arg6 : Memref sig .tc .vmem S24x1024 .bf16) (harg6 : arg6.IsWhole) (arg7 : Memref sig .tc .vmem S24x5120 .fp8e4m3) (harg7 : arg7.IsWhole) (arg8 : Memref sig .tc .vmem S24x40 .f32) (harg8 : arg8.IsWhole) (arg9 : Memref sig .tc .vmem S20x64x256 .fp8e4m3) (harg9 : arg9.IsWhole) (arg10 : Memref sig .tc .vmem S40x24x128 .f32) (harg10 : arg10.IsWhole) {α : Type} (k : Prog (TpuEff nD τ sig (Elt F) Λ₀ .tc) α) :
    Prog (TpuEff nD τ sig (Elt F) Λ₀ .tc) α :=
  if k0_h1 : k0_cond1 i = 1#1 then quantProg i arg1 harg1 arg2 harg2 arg3 harg3 arg4 harg4 arg5 harg5 arg6 harg6 arg7 harg7 arg8 harg8 arg9 harg9 arg10 harg10 k else k

set_option maxHeartbeats 40000000 in
/-- The body at any grid point, from what its first part (`scf.if` of the first point) leaves in the two scratch buffers: it
    leaves the inputs' blocks as they were and the output block at what it computes of the weights, their scales and the scratch. -/
theorem body_run (c : Dev nD) (i : grid0.Coords) (arg1 : Memref sig .tc .vmem S24x5120 .bf16) (harg1 : arg1.IsWhole) (arg2 : Memref sig .tc .vmem S1024x5120 .fp8e4m3) (harg2 : arg2.IsWhole) (arg3 : Memref sig .tc .smem S8x40 .f32) (harg3 : arg3.IsWhole) (arg4 : Memref sig .tc .vmem S1024x5120 .fp8e4m3) (harg4 : arg4.IsWhole) (arg5 : Memref sig .tc .smem S8x40 .f32) (harg5 : arg5.IsWhole) (arg6 : Memref sig .tc .vmem S24x1024 .bf16) (harg6 : arg6.IsWhole) (arg7 : Memref sig .tc .vmem S24x5120 .fp8e4m3) (harg7 : arg7.IsWhole) (arg8 : Memref sig .tc .vmem S24x40 .f32) (harg8 : arg8.IsWhole) (arg9 : Memref sig .tc .vmem S20x64x256 .fp8e4m3) (harg9 : arg9.IsWhole) (arg10 : Memref sig .tc .vmem S40x24x128 .f32) (harg10 : arg10.IsWhole)
    (x1 : Vec F S1024x5120 .fp8e4m3) (x2 : Vec F S8x40 .f32) (x3 : Vec F S1024x5120 .fp8e4m3) (x4 : Vec F S8x40 .f32)
    (l : Vec F S20x64x256 .fp8e4m3) (s : Vec F S40x24x128 .f32) (E : Set ℕ) (P R : sProp 𝕄)
    (hA : ∀ (α : Type) (k : Prog (TpuEff nD τ sig (Elt F) Λ₀ .tc) α) (K' : α → sProp 𝕄), iprop(P ∗ (iprop(owns (c : Thread nD τ) arg9 fullShare l ∗ owns (c : Thread nD τ) arg10 fullShare s ∗ R) -∗ wp frame (wpE (defs₀ (F := F)) Variants.none c none) E k K'))
      ⊢ wp frame (wpE (defs₀ (F := F)) Variants.none c none) E (firstProg i arg1 harg1 arg2 harg2 arg3 harg3 arg4 harg4 arg5 harg5 arg6 harg6 arg7 harg7 arg8 harg8 arg9 harg9 arg10 harg10 k) K')
    (K : PUnit → sProp 𝕄) :
    iprop(P ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (Yq l s x1 x2 x3 x4) ∗ owns (c : Thread nD τ) arg9 fullShare l ∗ owns (c : Thread nD τ) arg10 fullShare s ∗ R) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10) K := by
  simp only [cc0__body_eq_skeleton]; unfold cc0__body_skel
  simp only [k0_part198_eq_skeleton, k0_part199_eq_skeleton]
  unfold k0_part198_skel
  simp only [k0_part198_eq_skeleton, k0_part199_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton]
  unfold k0_part58_skel
  rw [wp_bind, wp_bind]
  unfold firstProg quantProg owns at *
  iintro ⟨HP, ⟨%f1, %hf1, H1⟩, ⟨%f2, %hf2, H2⟩, ⟨%f3, %hf3, H3⟩, ⟨%f4, %hf4, H4⟩, ⟨%d5, %f5, -, H5⟩, Hk⟩
  obtain rfl := harg2.eq_unread hf1; obtain rfl := harg3.eq_unread hf2; obtain rfl := harg4.eq_unread hf3; obtain rfl := harg5.eq_unread hf4
  iapply hA
  isplitl [HP]; · iexact HP
  iintro ⟨⟨%g0, %hg0, HS0⟩, ⟨%g1, %hg1, HS1⟩, HR⟩
  obtain rfl := harg9.eq_unread hg0; obtain rfl := harg10.eq_unread hg1
  sl_exec
  sl_step
  iapply Hk
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (read_out arg6.view f5 (arg9.view.read (Elt F) (harg9.unread l)) (arg10.view.read (Elt F) (harg10.unread s)) (arg2.view.read (Elt F) (harg2.unread x1)) (arg3.view.read (Elt F) (harg3.unread x2)) (arg4.view.read (Elt F) (harg4.unread x3)) (arg5.view.read (Elt F) (harg5.unread x4))).trans ?_
    rw [harg9.read_unread, harg10.read_unread, harg2.read_unread, harg3.read_unread, harg4.read_unread, harg5.read_unread]
  isplitl [HS0]
  · iexists _; isplitr; · ipureintro; exact harg9.read_unread _
    iexact HS0
  isplitl [HS1]
  · iexists _; isplitr; · ipureintro; exact harg10.read_unread _
    iexact HS1
  iexact HR

end Cert.KernelIdeal.Run

end
-- ==== Proof.KRun.lean ====
/- The run of the pipeline with its three results named: what the body leaves at every point, the launch, and the frame. -/
module

public import proofs.«01_k».proof.Proof.BodyRun
public import proofs.«01_k».proof.Proof.Gen.KernelIdeal.Points
public import Idealize.ShloMosaic.Lib.Pipeline.Value
public import Idealize.ShloMosaic.Lib.Pipeline.TableIdle
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch of the body that quantises is taken at the first point only. -/
theorem cond_iff : ∀ t : Fin cfg0.N, k0_cond1 (grid0.coords t) = 1#1 ↔ t.val % 54 = 0 :=
  (fun t => by
    have ht : t.val < 54 := Nat.lt_of_lt_of_eq t.isLt N_0
    have e0 : (grid0.coords t 0).val = t.val / 1 % 54 := Pipeline.Grid.coords_val t 0 (by decide) rfl
    simp only [k0_cond1, e0]
    word_cmp
   : ∀ t : Fin grid0.N, k0_cond1 (grid0.coords t) = 1#1 ↔ t.val % 54 = 0)

/-- A point's number is below 54. -/
theorem lt54 (t : Fin cfg0.N) : t.val < 54 := Nat.lt_of_lt_of_eq t.isLt N_0

/-- The activations as the region finds them: window 0's one block. -/
def act (c : Dev nD) : S24x5120.Idx → Elt F .bf16 := iblk m c 0 ⟨0, by rw [show cfg0.N = 54 from N_0]; decide⟩

/-- Window 0 shows the same block at every point. -/
theorem iblk_act (c : Dev nD) (t : Fin cfg0.N) : iblk m c 0 t = act m c := rfl

/-- What the output block of a point holds. -/
def yAt (c : Dev nD) (t : Fin cfg0.N) : S24x1024.Idx → Elt F .bf16 :=
  Yq (Lq (act m c)) (Xq (act m c)) (iblk m c 1 t) (iblk m c 2 t) (iblk m c 3 t) (iblk m c 4 t)

/-- The scratch operands. -/
abbrev sc0 : Memref sig .tc .vmem S20x64x256 .fp8e4m3 := Memref.whole cc0_scratch0
/-- The scratch operands. -/
abbrev sc1 : Memref sig .tc .vmem S40x24x128 .f32 := Memref.whole cc0_scratch1

/-- The invariant with the scratch at named contents. -/
def held (c : Dev nD) : sProp 𝕄 :=
  iprop(iprop(owns (c : Thread nD τ) sc0 fullShare (Lq (act m c)) ∗ owns (c : Thread nD τ) sc1 fullShare (Xq (act m c))) ∗ (∃ r, prngReg c r))

/-- The invariant with the scratch at any contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The proof data: the inputs' blocks stay, the outputs hold what is named; after the first point the scratch holds the
    quantised rows and their scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => Cq (act m c)
    | ⟨7, _⟩ => Sq (act m c)
  Φ t := match t.val with
    | 0 => Pipeline.ΦA spec0 c
    | _ + 1 => held m c
  q _ := fullShare
  owed _ := 0

/-- The arrays of the proof data are those the region finds. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
/-- What the body leaves, window by window. -/
theorem after1 (c : Dev nD) (t : Fin cfg0.N) : (dats m 0 c).after 1 t = iblk m c 1 t := by dsimp only [dats]
/-- What the body leaves, window by window. -/
theorem after2 (c : Dev nD) (t : Fin cfg0.N) : (dats m 0 c).after 2 t = iblk m c 2 t := by dsimp only [dats]
/-- What the body leaves, window by window. -/
theorem after3 (c : Dev nD) (t : Fin cfg0.N) : (dats m 0 c).after 3 t = iblk m c 3 t := by dsimp only [dats]
/-- What the body leaves, window by window. -/
theorem after4 (c : Dev nD) (t : Fin cfg0.N) : (dats m 0 c).after 4 t = iblk m c 4 t := by dsimp only [dats]
/-- What the body leaves, window by window. -/
theorem after5 (c : Dev nD) (t : Fin cfg0.N) : (dats m 0 c).after 5 t = yAt m c t := by dsimp only [dats]
/-- What the body leaves, window by window. -/
theorem after6 (c : Dev nD) (t : Fin cfg0.N) : (dats m 0 c).after 6 t = Cq (act m c) := by dsimp only [dats]
/-- What the body leaves, window by window. -/
theorem after7 (c : Dev nD) (t : Fin cfg0.N) : (dats m 0 c).after 7 t = Sq (act m c) := by dsimp only [dats]

/-- An input's buffer holds its block at every point. -/
theorem before0 (c : Dev nD) (t : Fin cfg0.N) (d) : (dats m 0 c).before 0 t d = iblk m c 0 t :=
  before0_0_of m (dats m 0 c) (A_eq m c 0) (after0 m c) t d
/-- An input's buffer holds its block at every point. -/
theorem before1 (c : Dev nD) (t : Fin cfg0.N) (d) : (dats m 0 c).before 1 t d = iblk m c 1 t :=
  before0_1_of m (dats m 0 c) (A_eq m c 1) (after1 m c) t d
/-- An input's buffer holds its block at every point. -/
theorem before2 (c : Dev nD) (t : Fin cfg0.N) (d) : (dats m 0 c).before 2 t d = iblk m c 2 t :=
  before0_2_of m (dats m 0 c) (A_eq m c 2) (after2 m c) t d
/-- An input's buffer holds its block at every point. -/
theorem before3 (c : Dev nD) (t : Fin cfg0.N) (d) : (dats m 0 c).before 3 t d = iblk m c 3 t :=
  before0_3_of m (dats m 0 c) (A_eq m c 3) (after3 m c) t d
/-- An input's buffer holds its block at every point. -/
theorem before4 (c : Dev nD) (t : Fin cfg0.N) (d) : (dats m 0 c).before 4 t d = iblk m c 4 t :=
  before0_4_of m (dats m 0 c) (A_eq m c 4) (after4 m c) t d

/-- The codes' and the scales' windows are stored at the first point only. -/
theorem idle6 (t : Fin cfg0.N) : cfg0.idle 6 (cfg0.grid.coords t) = !decide (t.val % 54 = 0) := by
  show (!(k0_cond1 (grid0.coords t) == 1#1)) = _
  by_cases h : t.val % 54 = 0
  · rw [(cond_iff t).mpr h]; simp [h]
  · have := mt (cond_iff t).mp h
    simp [h, this]
/-- The codes' and the scales' windows are stored at the first point only. -/
theorem idle7 (t : Fin cfg0.N) : cfg0.idle 7 (cfg0.grid.coords t) = !decide (t.val % 54 = 0) := idle6 t

/-- Past the first point the two windows hold what was stored there. -/
theorem fresh_pos (w : Fin cfg0.W) (hi : ∀ t : Fin cfg0.N, cfg0.idle w (cfg0.grid.coords t) = !decide (t.val % 54 = 0))
    (hf : ∀ t : Fin cfg0.N, (cfg0.win w).flush t = true ↔ t.val % 54 = 53) :
    ∀ n, n + 1 < 54 → cfg0.fresh w (n + 1) = false
  | 0, h => by
    have hN : 0 < cfg0.N := by rw [show cfg0.N = 54 from N_0]; decide
    rw [Cfg.fresh_succ cfg0 w 0 hN, hi ⟨0, hN⟩]
    have := mt (hf ⟨0, hN⟩).mp (by show ¬ 0 % 54 = 53; decide)
    simp [this]
  | n + 1, h => by
    have hN : n + 1 < cfg0.N := by rw [show cfg0.N = 54 from N_0]; omega
    rw [Cfg.fresh_succ cfg0 w (n + 1) hN, fresh_pos w hi hf n (by omega)]
    have := mt (hf ⟨n + 1, hN⟩).mp (by show ¬ (n + 1) % 54 = 53; omega)
    simp [this]

/-- What the codes' buffer holds past the first point. -/
theorem before6 (c : Dev nD) (t : Fin cfg0.N) (ht : t.val % 54 ≠ 0) (d) : (dats m 0 c).before 6 t d = Cq (act m c) := by
  have hl := lt54 t
  rw [(dats m 0 c).before_out_traj 6 rfl (fun _ _ => rfl) (fun t h _ _ => by rw [after6, after6]) t.val t rfl d]
  obtain ⟨n, hn⟩ : ∃ n, t.val = n + 1 := ⟨t.val - 1, by omega⟩
  rw [if_neg (by rw [hn, fresh_pos 6 idle6 flush0_6 n (by omega)]; exact Bool.false_ne_true), after6]
/-- What the scales' buffer holds past the first point. -/
theorem before7 (c : Dev nD) (t : Fin cfg0.N) (ht : t.val % 54 ≠ 0) (d) : (dats m 0 c).before 7 t d = Sq (act m c) := by
  have hl := lt54 t
  rw [(dats m 0 c).before_out_traj 7 rfl (fun _ _ => rfl) (fun t h _ _ => by rw [after7, after7]) t.val t rfl d]
  obtain ⟨n, hn⟩ : ∃ n, t.val = n + 1 := ⟨t.val - 1, by omega⟩
  rw [if_neg (by rw [hn, fresh_pos 7 idle7 flush0_7 n (by omega)]; exact Bool.false_ne_true), after7]

/-- Each window's current staging memref. -/
abbrev st0 (t : Fin cfg0.N) : Memref sig .tc .vmem S24x5120 .bf16 := win0_0.stage (cfg0.slots t 0)
/-- Each window's current staging memref. -/
abbrev st1 (t : Fin cfg0.N) : Memref sig .tc .vmem S1024x5120 .fp8e4m3 := win0_1.stage (cfg0.slots t 1)
/-- Each window's current staging memref. -/
abbrev st2 (t : Fin cfg0.N) : Memref sig .tc .smem S8x40 .f32 := win0_2.stage (cfg0.slots t 2)
/-- Each window's current staging memref. -/
abbrev st3 (t : Fin cfg0.N) : Memref sig .tc .vmem S1024x5120 .fp8e4m3 := win0_3.stage (cfg0.slots t 3)
/-- Each window's current staging memref. -/
abbrev st4 (t : Fin cfg0.N) : Memref sig .tc .smem S8x40 .f32 := win0_4.stage (cfg0.slots t 4)
/-- Each window's current staging memref. -/
abbrev st5 (t : Fin cfg0.N) : Memref sig .tc .vmem S24x1024 .bf16 := win0_5.stage (cfg0.slots t 5)
/-- Each window's current staging memref. -/
abbrev st6 (t : Fin cfg0.N) : Memref sig .tc .vmem S24x5120 .fp8e4m3 := win0_6.stage (cfg0.slots t 6)
/-- Each window's current staging memref. -/
abbrev st7 (t : Fin cfg0.N) : Memref sig .tc .vmem S24x40 .f32 := win0_7.stage (cfg0.slots t 7)

/-- The codes held past the first point are what the obligation asks back. -/
theorem leaves6 (c : Dev nD) (t : Fin cfg0.N) :
    owns (c : Thread nD τ) (st6 t) fullShare (Cq (act m c)) ⊢ ((dats m 0 c).leavesExact 6 t : sProp 𝕄) := by
  unfold Dat.leavesExact
  rw [idle6 t, after6]
  by_cases h : t.val % 54 = 0
  · rw [decide_eq_true h]; exact .rfl
  · rw [decide_eq_false h]
    cases (cfg0.win 6).flush t
    · show _ ⊢ iprop(∃ d, owns (c : Thread nD τ) (st6 t) fullShare ((dats m 0 c).before 6 t d))
      iintro H
      iexists (Cq (act m c))
      rw [before6 m c t h]
      iexact H
    · exact .rfl
/-- The scales held past the first point are what the obligation asks back. -/
theorem leaves7 (c : Dev nD) (t : Fin cfg0.N) :
    owns (c : Thread nD τ) (st7 t) fullShare (Sq (act m c)) ⊢ ((dats m 0 c).leavesExact 7 t : sProp 𝕄) := by
  unfold Dat.leavesExact
  rw [idle7 t, after7]
  by_cases h : t.val % 54 = 0
  · rw [decide_eq_true h]; exact .rfl
  · rw [decide_eq_false h]
    cases (cfg0.win 7).flush t
    · show _ ⊢ iprop(∃ d, owns (c : Thread nD τ) (st7 t) fullShare ((dats m 0 c).before 7 t d))
      iintro H
      iexists (Sq (act m c))
      rw [before7 m c t h]
      iexact H
    · exact .rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The invariant before the first point, -/
theorem Phi_zero (c : Dev nD) (t : Fin cfg0.N) (h : t.val % 54 = 0) : (dats m 0 c).Φ t.castSucc = (Pipeline.ΦA spec0 c : sProp 𝕄) := by
  have : t.val = 0 := by have := lt54 t; omega
  show (match t.castSucc.val with | 0 => Pipeline.ΦA spec0 c | _ + 1 => held m c) = _
  rw [show t.castSucc.val = 0 from this]
/-- before any other point, -/
theorem Phi_pos (c : Dev nD) (t : Fin cfg0.N) (h : t.val % 54 ≠ 0) : (dats m 0 c).Φ t.castSucc = (held m c : sProp 𝕄) := by
  obtain ⟨n, hn⟩ : ∃ n, t.val = n + 1 := ⟨t.val - 1, by have := lt54 t; omega⟩
  show (match t.castSucc.val with | 0 => Pipeline.ΦA spec0 c | _ + 1 => held m c) = _
  rw [show t.castSucc.val = n + 1 from hn]
/-- and after any point. -/
theorem Phi_succ (c : Dev nD) (t : Fin cfg0.N) : (dats m 0 c).Φ t.succ = (held m c : sProp 𝕄) := rfl

set_option maxHeartbeats 1600000 in
/-- The body at any point leaves the named contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [Phi_succ, show (dats m 0 c).owesAt () t.succ = (dats m 0 c).owesAt () t.castSucc from rfl]
  rw [show (dats m 0 c).leavesExact 0 t = owns (c : Thread nD τ) (st0 t) fullShare ((dats m 0 c).after 0 t) from rfl, after0]
  rw [show (dats m 0 c).leavesExact 1 t = owns (c : Thread nD τ) (st1 t) fullShare ((dats m 0 c).after 1 t) from rfl, after1]
  rw [show (dats m 0 c).leavesExact 2 t = owns (c : Thread nD τ) (st2 t) fullShare ((dats m 0 c).after 2 t) from rfl, after2]
  rw [show (dats m 0 c).leavesExact 3 t = owns (c : Thread nD τ) (st3 t) fullShare ((dats m 0 c).after 3 t) from rfl, after3]
  rw [show (dats m 0 c).leavesExact 4 t = owns (c : Thread nD τ) (st4 t) fullShare ((dats m 0 c).after 4 t) from rfl, after4]
  rw [show (dats m 0 c).leavesExact 5 t = owns (c : Thread nD τ) (st5 t) fullShare ((dats m 0 c).after 5 t) from rfl, after5]
  by_cases h0 : t.val % 54 = 0
  · rw [Phi_zero m c t h0, PhiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_run c (grid0.coords t) _ _ _ _ _ _ _ _ _ _ _ _ _ _ _ _ _ _ _ _ (iblk m c 1 t) (iblk m c 2 t) (iblk m c 3 t) (iblk m c 4 t)
      (Lq (act m c)) (Xq (act m c)) Set.univ
      iprop(owns (c : Thread nD τ) (st0 t) fullShare (act m c) ∗ (∃ d, owns (c : Thread nD τ) (st6 t) fullShare d)
        ∗ (∃ d, owns (c : Thread nD τ) (st7 t) fullShare d)
        ∗ (∃ d, owns (c : Thread nD τ) sc0 fullShare d) ∗ (∃ d, owns (c : Thread nD τ) sc1 fullShare d))
      iprop(owns (c : Thread nD τ) (st0 t) fullShare (act m c) ∗ owns (c : Thread nD τ) (st6 t) fullShare (Cq (act m c))
        ∗ owns (c : Thread nD τ) (st7 t) fullShare (Sq (act m c)))
      (by
        intro α k K'
        unfold firstProg
        rw [dif_pos ((cond_iff t).mpr h0)]
        iintro ⟨⟨H0, H6, H7, HS0, HS1⟩, HK⟩
        iapply (quant_run c (grid0.coords t) _ _ _ _ _ _ _ _ _ _ _ _ _ _ _ _ _ _ _ _ (act m c) Set.univ k K')
        isplitl [H0]; · iexact H0
        isplitl [H6]; · iexact H6
        isplitl [H7]; · iexact H7
        isplitl [HS0]; · iexact HS0
        isplitl [HS1]; · iexact HS1
        iintro ⟨H0, H6, H7, HS0, HS1⟩
        iapply HK
        isplitl [HS0]; · iexact HS0
        isplitl [HS1]; · iexact HS1
        isplitl [H0]; · iexact H0
        isplitl [H6]; · iexact H6
        iexact H7) _)
    isplitl [H0 H6 H7 HS0 HS1]
    · isplitl [H0]; · iexact H0
      isplitl [H6]; · iexists _; iexact H6
      isplitl [H7]; · iexists _; iexact H7
      isplitl [HS0]; · iexact HS0
      iexact HS1
    isplitl [H1]; · iexact H1
    isplitl [H2]; · iexact H2
    isplitl [H3]; · iexact H3
    isplitl [H4]; · iexact H4
    isplitl [H5]; · iexists _; iexact H5
    iintro ⟨H1, H2, H3, H4, H5, HS0, HS1, H0, H6, H7⟩
    unfold held
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves6 m c t); iexact H6
    iapply (leaves7 m c t); iexact H7
  · rw [Phi_pos m c t h0]
    simp only [before6 m c t h0, before7 m c t h0]
    unfold held
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_run c (grid0.coords t) _ _ _ _ _ _ _ _ _ _ _ _ _ _ _ _ _ _ _ _ (iblk m c 1 t) (iblk m c 2 t) (iblk m c 3 t) (iblk m c 4 t)
      (Lq (act m c)) (Xq (act m c)) Set.univ
      iprop(owns (c : Thread nD τ) sc0 fullShare (Lq (act m c)) ∗ owns (c : Thread nD τ) sc1 fullShare (Xq (act m c)))
      iprop(emp)
      (by
        intro α k K'
        unfold firstProg
        rw [dif_neg (mt (cond_iff t).mp h0)]
        iintro ⟨⟨HS0, HS1⟩, HK⟩
        iapply HK
        isplitl [HS0]; · iexact HS0
        isplitl [HS1]; · iexact HS1
        iempintro) _)
    isplitl [HS0 HS1]
    · isplitl [HS0]; · iexact HS0
      iexact HS1
    isplitl [H1]; · iexact H1
    isplitl [H2]; · iexact H2
    isplitl [H3]; · iexact H3
    isplitl [H4]; · iexact H4
    isplitl [H5]; · iexists _; iexact H5
    iintro ⟨H1, H2, H3, H4, H5, HS0, HS1, -⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves6 m c t); iexact H6
    iapply (leaves7 m c t); iexact H7

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant after the last point gives the scratch back. -/
theorem held_PhiA (c : Dev nD) : (held m c : sProp 𝕄) ⊢ Pipeline.ΦA spec0 c := by
  rw [PhiA_eq]; unfold held
  iintro ⟨⟨HS0, HS1⟩, Hg⟩
  isplitl [HS0 HS1]
  · isplitl [HS0]
    · iexists _; iexact HS0
    iexists _; iexact HS1
  iexact Hg

set_option backward.isDefEq.respectTransparency.types false in
/-- The launch: it ends, the arrays hold what the proof data say, and every semaphore reads zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl) (hout := fun c => held_PhiA m c)

/-- The launch without the semaphores. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and every semaphore reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

/-- The run with the three results named as arrays after the write-backs. -/
theorem run_arr : θ_run defs (onTc (τ := τ) (main (F := F))) ⟨m, fun _ => 0, ρ⟩ (fun r => ∀ c : Dev nD,
      r.2.mem ((c.tc : Thread nD τ).loc main_v1_0) = (dats m 0 c).arrAt 5 cfg0.N
      ∧ r.2.mem ((c.tc : Thread nD τ).loc main_v1_1) = (dats m 0 c).arrAt 6 cfg0.N
      ∧ r.2.mem ((c.tc : Thread nD τ).loc main_v1_2) = (dats m 0 c).arrAt 7 cfg0.N) :=
  (θ_run defs _ _).mono (fun r h c => ⟨(h c).1 5, (h c).1 6, (h c).1 7⟩) (run_main m ρ)

end Cert.KernelIdeal.Run

end
-- ==== Proof.Scalar.lean ====
/-
   The exponent arithmetic of the quantisation at the ideal values: counting the powers of two below a number gives the
   floor of its base-two logarithm, and a biased exponent shifted into place denotes a power of two.
-/
module

public import Idealize.ShloMosaic.Lib.IdealHost
public import Idealize.ShloMosaic.Lib.ValueIdxCore

@[expose] public section

set_option maxRecDepth 16384

noncomputable section

namespace Cert.Scalar

open Idealize.ShloMosaic

/-! ## Bit patterns -/

/-- A biased exponent between 1 and 254 shifted into place denotes that power of two. -/
theorem ofBits_shl (n : ℕ) (h1 : 1 ≤ n) (h2 : n ≤ 254) :
    Ideal.ofBits .f32 (BitVec.ofNat 32 n <<< 23) = (((2 : ℝ) ^ ((n : ℤ) - 127) : ℝ) : EReal) := by
  have e1 : ((BitVec.ofNat 32 n <<< 23).extractLsb' (8 + 23) 1 == 1#1) = false := by
    rw [beq_eq_false_iff_ne]; intro h
    have := congrArg BitVec.toNat h
    simp only [BitVec.extractLsb'_toNat, BitVec.toNat_shiftLeft, BitVec.toNat_ofNat, Nat.shiftLeft_eq, Nat.shiftRight_eq_div_pow] at this
    omega
  have e2 : ((BitVec.ofNat 32 n <<< 23).extractLsb' 23 8).toNat = n := by
    simp only [BitVec.extractLsb'_toNat, BitVec.toNat_shiftLeft, BitVec.toNat_ofNat, Nat.shiftLeft_eq, Nat.shiftRight_eq_div_pow]
    omega
  have e3 : ((BitVec.ofNat 32 n <<< 23).extractLsb' 0 23).toNat = 0 := by
    simp only [BitVec.extractLsb'_toNat, BitVec.toNat_shiftLeft, BitVec.toNat_ofNat, Nat.shiftLeft_eq, Nat.shiftRight_eq_div_pow]
    omega
  have hp : (2 : ℝ) ^ ((n : ℤ) - 127) = (2 : ℝ) ^ (23 : ℤ) * (2 : ℝ) ^ ((n : ℤ) - 127 - 23) :=
    (congrArg (fun z : ℤ => (2 : ℝ) ^ z) (show (n : ℤ) - 127 = 23 + ((n : ℤ) - 127 - 23) by omega)).trans (zpow_add₀ two_ne_zero _ _)
  rw [hp]
  generalize BitVec.ofNat 32 n <<< 23 = b at e1 e2 e3
  simp only [Ideal.ofBits, Ideal.ieee, e1, e2, e3]
  rw [if_neg (by omega), if_neg (by omega)]
  norm_num

/-- The zero exponent denotes zero, -/
theorem ofBits_shl_zero : Ideal.ofBits .f32 (BitVec.ofNat 32 0 <<< 23) = 0 := by
  simp [Ideal.ofBits, Ideal.ieee]

/-- and the all-ones exponent infinity. -/
theorem ofBits_shl_top : Ideal.ofBits .f32 (BitVec.ofNat 32 255 <<< 23) = ⊤ := by
  simp [Ideal.ofBits, Ideal.ieee]

/-- The pattern of the constant 1/448, as rounded. -/
theorem ofBits_448 : Ideal.ofBits .f32 0x3B124925#32 = ((9586981 / 4294967296 : ℝ) : EReal) := by
  simp [Ideal.ofBits, Ideal.ieee, -EReal.coe_mul]; norm_num
/-- The pattern of the smallest normal number. -/
theorem ofBits_min : Ideal.ofBits .f32 0x00800000#32 = (((2 : ℝ) ^ (-126 : ℤ) : ℝ) : EReal) := by
  have := ofBits_shl 1 le_rfl (by norm_num)
  simpa using this
/-- The pattern of two. -/
theorem ofBits_two : Ideal.ofBits .f32 0x40000000#32 = ((2 : ℝ) : EReal) := by
  simp [Ideal.ofBits, Ideal.ieee, -EReal.coe_mul]; norm_num
/-- The pattern of minus infinity. -/
theorem ofBits_neg_inf : Ideal.ofBits .f32 0xFF800000#32 = ⊥ := by
  simp [Ideal.ofBits, Ideal.ieee]
/-- The pattern of the largest finite bf16 number. -/
theorem ofBits_bf16_max : Ideal.ofBits .bf16 0x7F7F#16 = ((255 * (2 : ℝ) ^ (120 : ℤ) : ℝ) : EReal) := by
  simp [Ideal.ofBits, Ideal.ieee, -EReal.coe_mul]

/-! ## The count of the thresholds -/

/-- The floor of the base-two logarithm. -/
def lg (r : ℝ) : ℤ := ⌊Real.log r / Real.log 2⌋

/-- A power of two lies at or below a positive number exactly when its exponent is at most the floor of the logarithm. -/
theorem zpow_le_iff {r : ℝ} (hr : 0 < r) (z : ℤ) : (2 : ℝ) ^ z ≤ r ↔ z ≤ lg r := by
  have hl : 0 < Real.log 2 := Real.log_pos (by norm_num)
  unfold lg
  rw [Int.le_floor, le_div_iff₀ hl, ← Real.log_zpow, Real.log_le_log_iff (by positivity) hr]

/-- The biased exponent of a number: that of its base-two logarithm, or zero below the normal numbers. -/
def bexp (r : ℝ) : ℕ := if (2 : ℝ) ^ (-126 : ℤ) ≤ r then (lg r + 127).toNat else 0

/-- A normal number has logarithm at least -126. -/
theorem log_ge {r : ℝ} (h : (2 : ℝ) ^ (-126 : ℤ) ≤ r) : -126 ≤ lg r := by
  have hr : 0 < r := lt_of_lt_of_le (by positivity) h
  exact (zpow_le_iff hr _).mp h

/-- A number below two to the 120 has logarithm below 120. -/
theorem log_lt {r : ℝ} (hr : 0 < r) (h : r < (2 : ℝ) ^ (120 : ℤ)) : lg r < 120 :=
  not_le.mp fun h' => absurd ((zpow_le_iff hr _).mpr h') (not_le.mpr h)

/-- Its biased exponent is at most 246. -/
theorem bexp_le {r : ℝ} (h : r < (2 : ℝ) ^ (120 : ℤ)) : bexp r ≤ 246 := by
  unfold bexp
  split_ifs with h1
  · have := log_lt (lt_of_lt_of_le (by positivity) h1) h; omega
  · omega

/-- A threshold lies at or below a number exactly when its index is at most the number's biased exponent. -/
theorem thr_le_iff {r : ℝ} (h0 : 0 ≤ r) (h : r < (2 : ℝ) ^ (120 : ℤ)) (j : ℕ) (hj : j < 256) :
    Ideal.ofBits .f32 (BitVec.ofNat 32 j <<< 23) ≤ (r : EReal) ↔ j ≤ bexp r := by
  rcases Nat.eq_zero_or_pos j with rfl | hpos
  · rw [ofBits_shl_zero]
    exact ⟨fun _ => Nat.zero_le _, fun _ => by exact_mod_cast h0⟩
  · rcases Nat.lt_or_ge j 255 with h255 | h255
    · rw [ofBits_shl j hpos (by omega), EReal.coe_le_coe_iff]
      unfold bexp
      split_ifs with h1
      · have hr : 0 < r := lt_of_lt_of_le (by positivity) h1
        have hg := log_ge h1
        rw [zpow_le_iff hr]; omega
      · constructor
        · intro h2
          exfalso; apply h1
          refine le_trans ?_ h2
          exact zpow_le_zpow_right₀ (by norm_num) (by omega)
        · intro h2; omega
    · obtain rfl : j = 255 := by omega
      rw [ofBits_shl_top]
      have := bexp_le h
      constructor
      · intro h2; exact absurd h2 (by simp)
      · intro h2; omega

/-- A finite sum of reals is the same among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The count of the indices up to `n`. -/
theorem sum_le_count (n : ℕ) (hn : n < 256) : (∑ j : Fin 256, (if j.val ≤ n then (1 : ℝ) else 0)) = ((n + 1 : ℕ) : ℝ) := by
  rw [Finset.sum_boole]
  congr 1
  have : (Finset.univ.filter fun j : Fin 256 => j.val ≤ n) = Finset.Iic ⟨n, hn⟩ := by
    ext j; simp [Fin.le_def]
  rw [this, Fin.card_Iic]

/-- Counting the thresholds at or below a number, in floating point, gives its biased exponent plus one. -/
theorem sum_thr {r : ℝ} (h0 : 0 ≤ r) (h : r < (2 : ℝ) ^ (120 : ℤ)) :
    (∑ j : Fin 256, (((((Ideal.cmp .oge (r : EReal) (Ideal.ofBits .f32 (BitVec.ofNat 32 j.val <<< 23))).setWidth 32).toInt : ℤ) : ℝ) : EReal))
      = (((bexp r + 1 : ℕ) : ℝ) : EReal) := by
  rw [← sum_le_count (bexp r) (by have := bexp_le h; omega), coe_sum]
  congr 1
  refine Finset.sum_congr rfl fun j _ => ?_
  unfold Ideal.cmp
  simp only [thr_le_iff h0 h j.val j.isLt]
  by_cases hj : j.val ≤ bexp r <;> simp [hj]

/-- Converting a small natural number to an integer word. -/
theorem fptosi_nat (n : ℕ) (hn : n < 1000) : Ideal.fptosi 32 (((n : ℕ) : ℝ) : EReal) = BitVec.ofNat 32 n := by
  have : Ideal.toIntClamped (-(2 ^ (32 - 1) : Nat)) ((2 ^ (32 - 1) : Nat) - 1) (((n : ℕ) : ℝ) : EReal) = (n : ℤ) := by
    show max _ (min _ (if 0 ≤ ((n : ℕ) : ℝ) then ⌊((n : ℕ) : ℝ)⌋ else _)) = _
    rw [if_pos (by positivity), Int.floor_natCast]
    norm_num; omega
  unfold Ideal.fptosi
  rw [this]
  exact BitVec.ofInt_natCast 32 n

/-- The exponent the quantisation stores: one above the floor of the base-two logarithm, or zero below the normal numbers. -/
def ex (r : ℝ) : ℤ := if (2 : ℝ) ^ (-126 : ℤ) ≤ r then lg r + 1 else 0

/-- The kernel's exponent word of a count `c`. -/
def kexp (c : BitVec 32) : BitVec 32 :=
  bif (0#32).slt (c - 1#32) then c - 1#32 - 126#32 else 0#32

/-- The kernel's exponent word of a number is the exponent stored. -/
theorem kexp_eq {r : ℝ} (h : r < (2 : ℝ) ^ (120 : ℤ)) :
    kexp (BitVec.ofNat 32 (bexp r + 1)) = BitVec.ofInt 32 (ex r) := by
  have hb := bexp_le h
  have hs : BitVec.ofNat 32 (bexp r + 1) - 1#32 = BitVec.ofNat 32 (bexp r) := by
    apply BitVec.eq_of_toNat_eq; simp only [BitVec.toNat_sub, BitVec.toNat_ofNat]; omega
  unfold kexp
  rw [hs]
  have ht : (BitVec.ofNat 32 (bexp r)).toInt = (bexp r : ℤ) := by
    rw [BitVec.toInt_eq_toNat_of_lt (by simp only [BitVec.toNat_ofNat]; omega), BitVec.toNat_ofNat]; omega
  have hlt : (0#32).slt (BitVec.ofNat 32 (bexp r)) = decide (0 < bexp r) := by
    rw [BitVec.slt_eq_decide, ht]; simp
  rw [hlt]
  unfold bexp ex at *
  by_cases h1 : (2 : ℝ) ^ (-126 : ℤ) ≤ r
  · have hg := log_ge h1
    simp only [if_pos h1] at *
    rw [show decide (0 < (lg r + 127).toNat) = true by simp; omega, cond_true]
    apply BitVec.eq_of_toNat_eq
    simp only [BitVec.toNat_sub, BitVec.toNat_ofNat, BitVec.toNat_ofInt]
    omega
  · simp only [if_neg h1] at *
    simp

/-- The stored exponent is small. -/
theorem ex_bounds {r : ℝ} (h : r < (2 : ℝ) ^ (120 : ℤ)) : -125 ≤ ex r ∧ ex r ≤ 120 := by
  unfold ex
  split_ifs with h1
  · have := log_ge h1; have := log_lt (lt_of_lt_of_le (by positivity) h1) h; omega
  · omega

/-- The scale's bit pattern denotes two to the exponent, -/
theorem ofBits_scale {r : ℝ} (h : r < (2 : ℝ) ^ (120 : ℤ)) :
    Ideal.ofBits .f32 ((BitVec.ofInt 32 (ex r) + 127#32) <<< 23) = (((2 : ℝ) ^ (ex r) : ℝ) : EReal) := by
  obtain ⟨h1, h2⟩ := ex_bounds h
  have : BitVec.ofInt 32 (ex r) + 127#32 = BitVec.ofNat 32 (ex r + 127).toNat := by
    apply BitVec.eq_of_toNat_eq
    simp only [BitVec.toNat_add, BitVec.toNat_ofNat, BitVec.toNat_ofInt]
    omega
  rw [this, ofBits_shl _ (by omega) (by omega)]
  congr 2
  omega

/-- and that of its inverse two to its negation. -/
theorem ofBits_inv {r : ℝ} (h : r < (2 : ℝ) ^ (120 : ℤ)) :
    Ideal.ofBits .f32 ((127#32 - BitVec.ofInt 32 (ex r)) <<< 23) = (((2 : ℝ) ^ (-(ex r)) : ℝ) : EReal) := by
  obtain ⟨h1, h2⟩ := ex_bounds h
  have : 127#32 - BitVec.ofInt 32 (ex r) = BitVec.ofNat 32 (127 - ex r).toNat := by
    apply BitVec.eq_of_toNat_eq
    simp only [BitVec.toNat_sub, BitVec.toNat_ofNat, BitVec.toNat_ofInt]
    omega
  rw [this, ofBits_shl _ (by omega) (by omega)]
  congr 2
  omega

/-! ## The largest magnitude -/

/-- The largest magnitude of 128 numbers, from minus infinity. -/
def amax (f : Fin 128 → EReal) : EReal := (Finset.univ : Finset (Fin 128)).fold max ⊥ fun k => max (f k) (-(f k))

/-- The numbers are finite in bf16, and their largest magnitude is zero or its scaling is at least the smallest normal number. -/
def Good (f : Fin 128 → EReal) : Prop :=
  (∀ k, max (f k) (-(f k)) ≤ Ideal.ofBits .bf16 0x7F7F#16)
    ∧ (amax f = Ideal.ofBits .f32 0x00000000#32 ∨ Ideal.ofBits .f32 0x00800000#32 ≤ amax f * Ideal.ofBits .f32 0x3B124925#32)

/-- The largest magnitude of such numbers is real, and its scaling a small nonnegative real that is positive only where normal. -/
theorem amax_real (f : Fin 128 → EReal) (hf : Good f) :
    ∃ s r : ℝ, amax f = (s : EReal) ∧ amax f * Ideal.ofBits .f32 0x3B124925#32 = (r : EReal) ∧ 0 ≤ r ∧ r < (2 : ℝ) ^ (120 : ℤ)
      ∧ (0 < s ↔ (2 : ℝ) ^ (-126 : ℤ) ≤ r) := by
  obtain ⟨hf, hn⟩ := hf
  have hub : amax f ≤ Ideal.ofBits .bf16 0x7F7F#16 :=
    (Finset.fold_max_le _).mpr ⟨bot_le, fun k _ => hf k⟩
  have hlb : 0 ≤ amax f := by
    refine (Finset.le_fold_max _).mpr (.inr ⟨0, Finset.mem_univ _, ?_⟩)
    rcases le_total 0 (f 0) with h | h
    · exact le_max_of_le_left h
    · exact le_max_of_le_right (by simpa using EReal.neg_le_neg_iff.mpr h)
  rw [ofBits_bf16_max] at hub
  have hne : amax f ≠ ⊤ := fun h => by rw [h] at hub; exact absurd hub (not_le.mpr (EReal.coe_lt_top _))
  have hnb : amax f ≠ ⊥ := fun h => by rw [h] at hlb; exact absurd hlb (by simp)
  lift amax f to ℝ using ⟨hne, hnb⟩ with s hs
  have h0 : (0 : ℝ) ≤ s := by exact_mod_cast hlb
  rw [ofBits_448, ← EReal.coe_mul] at hn ⊢
  rw [ofBits_min, Ideal.ofBits_zero_f32, EReal.coe_le_coe_iff] at hn
  refine ⟨s, s * (9586981 / 4294967296), rfl, rfl, by positivity, ?_, ?_⟩
  · have : s ≤ 255 * (2 : ℝ) ^ (120 : ℤ) := by exact_mod_cast hub
    have h2 : (0 : ℝ) < (2 : ℝ) ^ (120 : ℤ) := by positivity
    nlinarith
  · have h2 : (0 : ℝ) < (2 : ℝ) ^ (-126 : ℤ) := by positivity
    constructor
    · intro hp
      rcases hn with hz | hn
      · exact absurd (by exact_mod_cast hz : s = 0) hp.ne'
      · exact hn
    · intro hn
      by_contra hp
      have : s = 0 := le_antisymm (not_lt.mp hp) h0
      rw [this, zero_mul] at hn
      exact absurd hn (not_le.mpr h2)

/-! ## The reference's exponent -/

/-- The reference's exponent of a largest magnitude: by the quotient of the logarithms of its scaling and of two, or zero. -/
def rexp (A : EReal) : EReal :=
  bif decide (Ideal.ofBits .f32 0x00000000#32 < A) then
    Ideal.liftRound Int.floor (Ideal.div (Ideal.log (A * Ideal.ofBits .f32 0x3B124925#32)) (Ideal.log (Ideal.ofBits .f32 0x40000000#32))) + Ideal.ofBits .f32 0x3F800000#32
  else Ideal.ofBits .f32 0x00000000#32

/-- The reference's exponent of a largest magnitude is the one stored. -/
theorem rexp_eq {A : EReal} {s r : ℝ} (hs : A = (s : EReal)) (hr : A * Ideal.ofBits .f32 0x3B124925#32 = (r : EReal))
    (hsr : 0 < s ↔ (2 : ℝ) ^ (-126 : ℤ) ≤ r) : rexp A = (((ex r : ℤ) : ℝ) : EReal) := by
  unfold rexp ex
  rw [hr, hs, ofBits_two, Ideal.ofBits_one_f32, Ideal.ofBits_zero_f32]
  by_cases h1 : (2 : ℝ) ^ (-126 : ℤ) ≤ r
  · have h0 : 0 < s := hsr.mpr h1
    have hr : 0 < r := lt_of_lt_of_le (by positivity) h1
    have hlog2 : Real.log 2 ≠ 0 := (Real.log_pos (by norm_num)).ne'
    rw [show decide ((0 : EReal) < (s : EReal)) = true by
      rw [decide_eq_true_iff]; exact_mod_cast h0, cond_true, if_pos h1]
    have e1 : Ideal.log (r : EReal) = (Real.log r : EReal) := by
      show (if r ≤ 0 then ⊥ else (Real.log r : EReal)) = _
      rw [if_neg (not_le.mpr hr)]
    have e2 : Ideal.log ((2 : ℝ) : EReal) = (Real.log 2 : EReal) := by
      show (if (2 : ℝ) ≤ 0 then ⊥ else (Real.log 2 : EReal)) = _
      rw [if_neg (by norm_num)]
    rw [e1, e2]
    have e3 : Ideal.div (Real.log r : EReal) (Real.log 2 : EReal) = ((Real.log r / Real.log 2 : ℝ) : EReal) := by
      unfold Ideal.div
      rw [if_neg (by exact_mod_cast hlog2), ← EReal.coe_inv, ← EReal.coe_mul]
      rfl
    rw [e3]
    show ((⌊Real.log r / Real.log 2⌋ : ℝ) : EReal) + 1 = _
    rw [show ⌊Real.log r / Real.log 2⌋ = lg r from rfl, ← EReal.coe_one, ← EReal.coe_add]
    congr 1
    push_cast; rfl
  · rw [show decide ((0 : EReal) < (s : EReal)) = false by
      rw [decide_eq_false_iff_not]; intro h; exact h1 (hsr.mp (by exact_mod_cast h)), cond_false, if_neg h1]
    simp

/-- Two to an integer. -/
theorem exp2_int (z : ℤ) : Ideal.exp2 (((z : ℤ) : ℝ) : EReal) = (((2 : ℝ) ^ z : ℝ) : EReal) := by
  show ((Real.rpow 2 (z : ℝ) : ℝ) : EReal) = _
  congr 1
  exact Real.rpow_intCast 2 z

/-- Two to the reference's exponent, -/
theorem exp2_rexp {A : EReal} {s r : ℝ} (hs : A = (s : EReal)) (hr : A * Ideal.ofBits .f32 0x3B124925#32 = (r : EReal))
    (hsr : 0 < s ↔ (2 : ℝ) ^ (-126 : ℤ) ≤ r) : Ideal.exp2 (rexp A) = (((2 : ℝ) ^ (ex r) : ℝ) : EReal) := by
  rw [rexp_eq hs hr hsr, exp2_int]

/-- and to its negation. -/
theorem exp2_neg_rexp {A : EReal} {s r : ℝ} (hs : A = (s : EReal)) (hr : A * Ideal.ofBits .f32 0x3B124925#32 = (r : EReal))
    (hsr : 0 < s ↔ (2 : ℝ) ^ (-126 : ℤ) ≤ r) : Ideal.exp2 (0 - rexp A) = (((2 : ℝ) ^ (-(ex r)) : ℝ) : EReal) := by
  rw [rexp_eq hs hr hsr, ← exp2_int]
  congr 1
  push_cast
  rw [zero_sub]

end Cert.Scalar
-- ==== Proof.Spec.lean ====
/-
   The quantised gated product at the ideal values, in closed form: what both programs compute.
-/
module

public import proofs.«01_k».proof.Proof.Scalar

@[expose] public section

set_option maxRecDepth 16384

noncomputable section

namespace Cert.Spec

open Idealize.ShloMosaic Idealize.ShloMosaic.ValueIdx Cert.Scalar

/-- The activations' shape. -/
abbrev SX : Shape := ⟨2, ![24, 5120]⟩
/-- The weights' shape. -/
abbrev SW : Shape := ⟨2, ![55296, 5120]⟩
/-- The weight scales' shape. -/
abbrev SS : Shape := ⟨2, ![432, 40]⟩

/-- Column `k` of group `g`. -/
def col (g : Fin 40) (k : Fin 128) : Fin 5120 := ⟨128 * g.val + k.val, by have := g.isLt; have := k.isLt; omega⟩
/-- The group of a column. -/
def grpOf (c : Fin 5120) : Fin 40 := ⟨c.val / 128, by have := c.isLt; omega⟩
/-- The group of an output column. -/
def rowOf (n : Fin 55296) : Fin 432 := ⟨n.val / 128, by have := n.isLt; omega⟩

/-- A column of a group is of that group. -/
theorem grpOf_col (g : Fin 40) (k : Fin 128) : grpOf (col g k) = g := Fin.ext (by show (128 * g.val + k.val) / 128 = g.val; have := k.isLt; omega)

/-- The largest magnitude of a group of activations. -/
def gm (X : SX.Idx → EReal) (i : Fin 24) (g : Fin 40) : EReal := amax fun k => X (ix2 i (col g k))
/-- A group's scale. -/
def scl (X : SX.Idx → EReal) (i : Fin 24) (g : Fin 40) : EReal := Ideal.exp2 (rexp (gm X i g))
/-- The inverse of a group's scale. -/
def inv (X : SX.Idx → EReal) (i : Fin 24) (g : Fin 40) : EReal := Ideal.exp2 (0 - rexp (gm X i g))
/-- The code of an activation. -/
def code (X : SX.Idx → EReal) (i : Fin 24) (c : Fin 5120) : EReal :=
  min (Ideal.ofBits .f32 0x43E00000#32) (max (Ideal.ofBits .f32 0xC3E00000#32) (X (ix2 i c) * inv X i (grpOf c)))
/-- One group's product with a row of weights. -/
def grp (X : SX.Idx → EReal) (W : SW.Idx → EReal) (i : Fin 24) (n : Fin 55296) (g : Fin 40) : EReal :=
  ∑ k : Fin 128, code X i (col g k) * W (ix2 n (col g k))
/-- The scaled sum over the groups. -/
def acc (X : SX.Idx → EReal) (W : SW.Idx → EReal) (S : SS.Idx → EReal) (i : Fin 24) (n : Fin 55296) : EReal :=
  ∑ g : Fin 40, grp X W i n g * (scl X i g * S (ix2 (rowOf n) g))
/-- The gated output. -/
def out (X : SX.Idx → EReal) (W : SW.Idx → EReal) (S : SS.Idx → EReal) (W' : SW.Idx → EReal) (S' : SS.Idx → EReal) (i : Fin 24) (n : Fin 55296) : EReal :=
  acc X W S i n * Ideal.logistic (acc X W S i n) * acc X W' S' i n

/-- The activations as an array of rows. -/
def flat (A : (⟨3, ![24, 1, 5120]⟩ : Shape).Idx → EReal) : SX.Idx → EReal := fun y => A (ix3 (y 0) 0 (y 1))
/-- The gated outputs, the codes and the scales as arrays. -/
def outs (X : SX.Idx → EReal) (W : SW.Idx → EReal) (S : SS.Idx → EReal) (W' : SW.Idx → EReal) (S' : SS.Idx → EReal) : (⟨2, ![24, 55296]⟩ : Shape).Idx → EReal :=
  fun y => out X W S W' S' (y 0) (y 1)
/-- The gated outputs, the codes and the scales as arrays. -/
def codes (X : SX.Idx → EReal) : SX.Idx → EReal := fun y => code X (y 0) (y 1)
/-- The gated outputs, the codes and the scales as arrays. -/
def scls (X : SX.Idx → EReal) : (⟨2, ![24, 40]⟩ : Shape).Idx → EReal := fun y => scl X (y 0) (y 1)

/-- Every group of activations is finite, and zero or of a normal scaled largest magnitude. -/
def Normal (X : SX.Idx → EReal) : Prop := ∀ i g, Good fun k => X (ix2 i (col g k))

end Cert.Spec
-- ==== Proof.KVal.lean ====
/-
   The kernel's quantisation at the ideal values: one block of columns, then the codes, the scales and the planes of codes.
-/
module

public import proofs.«01_k».proof.Proof.Named
public import proofs.«01_k».proof.Proof.Spec
public import Idealize.ShloMosaic.Lib.ValueIdx
public import Idealize.ShloMosaic.PureOps.Ideal.Laws

@[expose] public section

set_option maxRecDepth 16384

noncomputable section

namespace Cert.KernelIdeal.Run

open Cert.KernelIdeal.Gen
open Idealize.ShloMosaic Idealize.ShloMosaic.TcCoe
open Idealize.ShloMosaic.ValueIdx Cert.Scalar Cert.Spec

/-- The scaled largest magnitudes of a block's rows. -/
def mx (v : Vec Ideal S24x128 .bf16) : FVec Ideal S24x1 .f32 :=
  mulf (shapeCast S24x1 (multiReduction .maximumf [1] S24 (absf (k0_pay6 v)) 0xFF800000#32 reduces_S24x128_S24 (.inl rfl) rfl) shapeCasts_S24_S24x1)
    (broadcast S24x1 (Scalar.ofBits .f32 0x3B124925#32))
/-- The counts of the thresholds. -/
def cnt (v : Vec Ideal S24x128 .bf16) : FVec Ideal S24x1 .f32 :=
  shapeCast S24x1 (multiReduction .add [1] S24 (sitofp .f32 (extui 32 (cmpf .oge (broadcastTo S24x256 (mx v) broadcasts_S24x1_S24x256) (k0_pay5 (F := Ideal))) natLt_1_32) : FVec Ideal S24x256 .f32)
    0x00000000#32 reduces_S24x256_S24 (.inl rfl) rfl) shapeCasts_S24_S24x1

/-- Widening the activations does nothing at the ideal values. -/
theorem pay6_apply (v : Vec Ideal S24x128 .bf16) (y : S24x128.Idx) : k0_pay6 v y = v y := by
  unfold k0_pay6
  rw [extf_apply, shapeCast_self]

/-- Reading a column vector cast from a vector. -/
theorem cast24 {α : Type} (x : S24.Idx → α) (h : S24.ShapeCasts S24x1) (i : Fin 24) : shapeCast S24x1 x h (ix2 i 0) = x (ix1 i) :=
  shapeCast_apply x h _ _ (by rw [Shape.rowMajor_val_one, Shape.rowMajor_val_two]; show i.val = i.val * 1 + 0; omega)

/-- A row's maximum, -/
theorem rowmax (w : FVec Ideal S24x128 .f32) (hφ : FKind.Formats .f32) (hacc : (0xFF800000#32 : BitVec 32) = FKind.maximumf.neutral .f32 hφ) (i : Fin 24) :
    multiReduction .maximumf [1] S24 w 0xFF800000#32 reduces_S24x128_S24 hφ hacc (ix1 i) = (Finset.univ : Finset (Fin 128)).fold max ⊥ (fun k => w (ix2 i k)) := by
  refine (Ideal.multiReduction_maximumf_single w _ reduces_S24x128_S24 hφ hacc (ix1 i)).trans ?_
  show Finset.fold max (Ideal.ofBits .f32 0xFF800000#32) _ _ = _
  rw [ofBits_neg_inf]
  refine Finset.fold_congr fun k _ => ?_
  have e : reduces_S24x128_S24.lift (ix1 i) k = ix2 i k := by
    funext a; match a with | ⟨0, _⟩ => rfl | ⟨1, _⟩ => rfl
  exact congrArg w e

/-- and a row's sum. -/
theorem rowsum (w : FVec Ideal S24x256 .f32) (hφ : FKind.Formats .f32) (hacc : (0x00000000#32 : BitVec 32) = FKind.add.neutral .f32 hφ) (i : Fin 24) :
    multiReduction .add [1] S24 w 0x00000000#32 reduces_S24x256_S24 hφ hacc (ix1 i) = ∑ j : Fin 256, w (ix2 i j) := by
  refine (Ideal.multiReduction_add_single w _ reduces_S24x256_S24 hφ hacc (ix1 i)).trans ?_
  refine Finset.sum_congr rfl fun j _ => ?_
  have e : reduces_S24x256_S24.lift (ix1 i) j = ix2 i j := by
    funext a; match a with | ⟨0, _⟩ => rfl | ⟨1, _⟩ => rfl
  exact congrArg w e

/-- The scaled largest magnitude of a row's group. -/
theorem mx_apply (v : Vec Ideal S24x128 .bf16) (i : Fin 24) :
    mx v (ix2 i 0) = amax (fun k => v (ix2 i k)) * Ideal.ofBits .f32 0x3B124925#32 := by
  unfold mx
  rw [mulf_apply, cast24]
  refine congrArg (· * Ideal.ofBits .f32 0x3B124925#32) ((rowmax (absf (k0_pay6 v)) _ _ i).trans ?_)
  unfold amax
  refine Finset.fold_congr fun k _ => ?_
  show max (k0_pay6 v (ix2 i k)) (-(k0_pay6 v (ix2 i k))) = _
  rw [pay6_apply]

/-- The thresholds. -/
theorem pay5_apply (i : Fin 24) (j : Fin 256) : k0_pay5 (F := Ideal) (ix2 i j) = Ideal.ofBits .f32 (BitVec.ofNat 32 j.val <<< 23) := by
  unfold k0_pay5
  show Ideal.ofBits .f32 (IntOp.shli .vector (iota .tc S24x256 32 [1] iota_S24x256_d1_w32 (ix2 i j)) 23#32) = _
  rw [iota_single_apply]
  rfl

/-- The count of the thresholds at or below the scaled largest magnitude. -/
theorem cnt_apply (v : Vec Ideal S24x128 .bf16) (i : Fin 24) (r : ℝ) (hr : mx v (ix2 i 0) = (r : EReal)) (h0 : 0 ≤ r) (h : r < (2 : ℝ) ^ (120 : ℤ)) :
    cnt v (ix2 i 0) = (((bexp r + 1 : ℕ) : ℝ) : EReal) := by
  unfold cnt
  rw [cast24, ← sum_thr h0 h]
  refine (rowsum _ _ _ i).trans ?_
  refine Finset.sum_congr rfl fun j _ => ?_
  have eb : broadcastTo S24x256 (mx v) broadcasts_S24x1_S24x256 (ix2 i j) = (r : EReal) := by
    rw [← hr]
    exact broadcastTo_apply _ _ _ _ (fun a => match a with | ⟨0, _⟩ => rfl | ⟨1, _⟩ => rfl)
  rw [sitofp_apply, extui_apply, cmpf_apply, eb, pay5_apply]
  rfl

/-- The choice of the exponent word. -/
theorem select_kexp (c : BitVec 32) : Scalar.select (IntOp.cmpi .sgt (c - 1#32) 0#32) (c - 1#32 - 126#32) 0#32 = kexp c := by
  unfold kexp Scalar.select IntOp.cmpi
  simp only
  cases (0#32).slt (c - 1#32) <;> rfl

/-- The exponent word of a row. -/
theorem pay7_eq (v : Vec Ideal S24x128 .bf16) (y : S24x1.Idx) : k0_pay7 v y = kexp (Ideal.fptosi 32 (cnt v y)) := by
  rw [← select_kexp]; rfl

/-- A row whose entries are finite, and zero or normal, has a real scaled largest magnitude, and the exponent word is its exponent's. -/
theorem pay7_apply (v : Vec Ideal S24x128 .bf16) (i : Fin 24) (hv : Good fun k => v (ix2 i k)) :
    ∃ s r : ℝ, amax (fun k => v (ix2 i k)) = (s : EReal) ∧ amax (fun k => v (ix2 i k)) * Ideal.ofBits .f32 0x3B124925#32 = (r : EReal)
      ∧ r < (2 : ℝ) ^ (120 : ℤ) ∧ (0 < s ↔ (2 : ℝ) ^ (-126 : ℤ) ≤ r) ∧ k0_pay7 v (ix2 i 0) = BitVec.ofInt 32 (ex r) := by
  obtain ⟨s, r, hs, hr, h0, h1, hsr⟩ := amax_real _ hv
  refine ⟨s, r, hs, hr, h1, hsr, ?_⟩
  rw [pay7_eq, cnt_apply v i r ((mx_apply v i).trans hr) h0 h1, fptosi_nat _ (by have := bexp_le h1; omega), kexp_eq h1]

/-- A row's scale, -/
theorem pay8_apply (v : Vec Ideal S24x128 .bf16) (i : Fin 24) (hv : Good fun k => v (ix2 i k)) :
    k0_pay8 v (ix2 i 0) = Ideal.exp2 (rexp (amax fun k => v (ix2 i k))) := by
  obtain ⟨s, r, hs, hr, h1, hsr, h7⟩ := pay7_apply v i hv
  rw [exp2_rexp hs hr hsr, ← ofBits_scale h1, ← h7]
  rfl

/-- and its inverse. -/
theorem pay9_apply (v : Vec Ideal S24x128 .bf16) (i : Fin 24) (hv : Good fun k => v (ix2 i k)) :
    Ideal.ofBits .f32 (k0_pay9 v (ix2 i 0) <<< 23) = Ideal.exp2 (0 - rexp (amax fun k => v (ix2 i k))) := by
  obtain ⟨s, r, hs, hr, h1, hsr, h7⟩ := pay7_apply v i hv
  rw [exp2_neg_rexp hs hr hsr, ← ofBits_inv h1, ← h7]
  rfl

/-- A block's clipped entry. -/
theorem pay10_apply (v : Vec Ideal S24x128 .bf16) (i : Fin 24) (k : Fin 128) (hv : Good fun k => v (ix2 i k)) :
    k0_pay10 (k0_pay6 v) (k0_pay9 v) 23#32 (ix2 i k) = min (Ideal.ofBits .f32 0x43E00000#32) (max (Ideal.ofBits .f32 0xC3E00000#32)
      (v (ix2 i k) * Ideal.exp2 (0 - rexp (amax fun k => v (ix2 i k))))) := by
  rw [← pay9_apply v i hv]
  unfold k0_pay10
  rw [minimumf_apply, maximumf_apply, mulf_apply, pay6_apply]
  rw [broadcastTo_apply (s := S24x1) (t := S24x128) _ _ (ix2 i k) (ix2 i 0) (fun a => match a with | ⟨0, _⟩ => rfl | ⟨1, _⟩ => rfl)]
  rfl

section Blocks
variable (X : Vec Ideal S24x5120 .bf16)

/-- One group's activations. -/
theorem xblk_apply (g : ℕ) (h : g < 40) (i : Fin 24) (k : Fin 128) : xblk X g h (ix2 i k) = X (ix2 i (col ⟨g, h⟩ k)) := by
  unfold xblk
  show X ((Rect.unit (s := S24x5120) ![0, 128 * g] S24x128.size (inb_col g h)).emb (ix2 i k)) = _
  congr 1
  funext a
  refine Fin.ext ?_
  refine (Rect.idx_unit_val (s := S24x5120) ![0, 128 * g] S24x128.size (inb_col g h) (ix2 i k) a).trans ?_
  match a with
  | ⟨0, _⟩ => exact Nat.zero_add _
  | ⟨1, _⟩ => rfl

variable (hX : Normal X)
include hX

/-- One group's activations are finite, and zero or normal. -/
theorem xblk_good (g : ℕ) (h : g < 40) (i : Fin 24) : Good fun k => xblk X g h (ix2 i k) := by
  simp only [xblk_apply]; exact hX i ⟨g, h⟩

/-- One group's scale. -/
theorem xblk_scl (g : ℕ) (h : g < 40) (i : Fin 24) : k0_pay8 (xblk X g h) (ix2 i 0) = scl X i ⟨g, h⟩ := by
  rw [pay8_apply _ i (xblk_good X hX g h i)]
  simp only [xblk_apply]
  rfl

/-- One group's codes. -/
theorem xblk_code (g : ℕ) (h : g < 40) (i : Fin 24) (k : Fin 128) :
    k0_pay10 (k0_pay6 (xblk X g h)) (k0_pay9 (xblk X g h)) 23#32 (ix2 i k) = code X i (col ⟨g, h⟩ k) := by
  rw [pay10_apply _ i k (xblk_good X hX g h i)]
  simp only [xblk_apply]
  unfold code Spec.inv
  rw [grpOf_col]
  rfl

/-- The kernel's codes. -/
theorem Cq_apply (i : Fin 24) (c : Fin 5120) : Cq X (ix2 i c) = code X i c := by
  have hc := c.isLt
  have := xblk_code X hX (c.val / 128) (by omega) i ⟨c.val % 128, Nat.mod_lt _ (by decide)⟩
  rw [show col ⟨c.val / 128, by omega⟩ ⟨c.val % 128, Nat.mod_lt _ (by decide)⟩ = c from Fin.ext (by show 128 * (c.val / 128) + c.val % 128 = c.val; omega)] at this
  exact this

/-- The repeated scales. -/
theorem xsP_apply (g : ℕ) (h : g < 40) (i : Fin 24) (k : Fin 128) : xsP (xblk X g h) (ix3 0 i k) = scl X i ⟨g, h⟩ := by
  rw [← xblk_scl X hX g h i]
  unfold xsP k0_pay12
  rw [shapeCast_apply (s := S24x128) (t := S1x24x128) _ _ (ix3 0 i k) (ix2 i k) (by
    rw [Shape.rowMajor_val_two, Shape.rowMajor_val_three]; show i.val * 128 + k.val = (0 * 24 + i.val) * 128 + k.val; omega)]
  rw [broadcastTo_apply (s := S24x1) (t := S24x128) _ _ (ix2 i k) (ix2 i 0) (fun a => match a with | ⟨0, _⟩ => rfl | ⟨1, _⟩ => rfl)]
  rw [shapeCast_self]

/-- The scale planes. -/
theorem Xq_apply (g : Fin 40) (i : Fin 24) (k : Fin 128) : Xq X (ix3 g i k) = scl X i g := xsP_apply X hX g.val g.isLt i k

/-- The scales after the groups below `n`. -/
theorem scalesN_apply (i : Fin 24) (g : Fin 40) : ∀ (n : ℕ) (h : n ≤ 40), g.val < n → scalesN X n h (ix2 i g) = scl X i g
  | n + 1, h, hg => by
    show Scalar.select (IntOp.cmpi .eq (iota .tc S24x40 32 [1] iota_S24x40_d1_w32 (ix2 i g)) (BitVec.ofNat 32 n))
      (broadcastTo S24x40 (shapeCast S24x1 (k0_pay8 (xblk X n h)) shapeCasts_S24x1_S24x1) broadcasts_S24x1_S24x40 (ix2 i g)) (scalesN X n (Nat.le_of_succ_le h) (ix2 i g)) = _
    rw [iota_single_apply, shapeCast_self]
    rw [broadcastTo_apply (s := S24x1) (t := S24x40) _ _ (ix2 i g) (ix2 i 0) (fun a => match a with | ⟨0, _⟩ => rfl | ⟨1, _⟩ => rfl)]
    show Scalar.select (BitVec.ofBool (BitVec.ofNat 32 g.val == BitVec.ofNat 32 n)) _ _ = _
    have hg40 := g.isLt
    by_cases hn : g.val = n
    · subst hn
      rw [beq_self_eq_true]
      exact xblk_scl X hX g.val g.isLt i
    · have hne : (BitVec.ofNat 32 g.val == BitVec.ofNat 32 n) = false := by
        rw [beq_eq_false_iff_ne]; intro he
        have := congrArg BitVec.toNat he
        simp only [BitVec.toNat_ofNat] at this
        omega
      rw [hne]
      exact scalesN_apply i g n (Nat.le_of_succ_le h) (by omega)

/-- The kernel's scales. -/
theorem Sq_apply (i : Fin 24) (g : Fin 40) : Sq X (ix2 i g) = scl X i g := scalesN_apply X hX i g 40 le_rfl g.isLt

/-- A plane of codes on its block diagonal, -/
theorem Lq_diag (p : Fin 20) (b : Fin 2) (i : Fin 24) (k : Fin 128) (r : Fin 64) (q : Fin 256) (hr : r.val = 32 * b.val + i.val) (hq : q.val = 128 * b.val + k.val) :
    Lq X (ix3 p r q) = code X i (col ⟨2 * p.val + b.val, by have := p.isLt; have := b.isLt; omega⟩ k) := by
  have hp := p.isLt; have hb := b.isLt; have hi := i.isLt; have hk := k.isLt
  rw [← Lq_of X (ix3 p r q) (2 * p.val + b.val) (by omega) (ix3 0 ⟨i.val, by omega⟩ k) (by show r.val / 32 = q.val / 128; omega)
    (by show 2 * p.val + q.val / 128 = _; omega) (by show i.val = r.val % 32; omega) (by show k.val = q.val % 128; omega)]
  rw [← xblk_code X hX]
  unfold lhsP k0_pay14
  rw [shapeCast_apply (s := S32x128) (t := S1x32x128) _ _ (ix3 0 ⟨i.val, by omega⟩ k) (ix2 ⟨i.val, by omega⟩ k) (by
    rw [Shape.rowMajor_val_two, Shape.rowMajor_val_three]; show i.val * 128 + k.val = (0 * 32 + i.val) * 128 + k.val; omega)]
  rw [truncf_apply]
  exact concatenate_pair_apply_left (t := S32x128) (s₁ := S24x128) (s₂ := S8x128) 0 _ _ _ _ rfl (ix2 i k) (fun a => match a with | ⟨0, _⟩ => rfl | ⟨1, _⟩ => rfl)

omit hX in
/-- and zero off it. -/
theorem Lq_off (p : Fin 20) (r : Fin 64) (q : Fin 256) (h : r.val / 32 ≠ q.val / 128) : Lq X (ix3 p r q) = 0 := by
  have : Lq X (ix3 p r q) = k0_pay3 (F := Ideal) (ix3 p r q) := by
    unfold Lq
    exact if_neg h
  rw [this]
  unfold k0_pay3
  rw [shapeCast_self]
  show Ideal.ofBits .fp8e4m3 0x00#8 = 0
  simp [Ideal.ofBits, Ideal.e4m3fn]

end Blocks

end Cert.KernelIdeal.Run
-- ==== Proof.KOut.lean ====
/-
   The kernel's accumulation at the ideal values: each group's half of a plane product is the group's product with the
   weights, and the accumulation is the scaled sum over the groups.
-/
module

public import proofs.«01_k».proof.Proof.KVal

@[expose] public section

set_option maxRecDepth 16384

noncomputable section

namespace Cert.KernelIdeal.Run

open Cert.KernelIdeal.Gen
open Idealize.ShloMosaic Idealize.ShloMosaic.TcCoe
open Idealize.ShloMosaic.ValueIdx Cert.Scalar Cert.Spec

/-- A sum over 256 columns of which only one half counts is the sum over that half. -/
theorem sum_half (f : Fin 256 → EReal) (b : Fin 2) (hz : ∀ q : Fin 256, q.val / 128 ≠ b.val → f q = 0) :
    ∑ q, f q = ∑ k : Fin 128, f ⟨128 * b.val + k.val, by have := b.isLt; have := k.isLt; omega⟩ := by
  have hs := Fin.sum_univ_add (a := 128) (b := 128) f
  refine hs.trans ?_
  match b, hz with
  | ⟨0, _⟩, hz =>
    rw [Finset.sum_eq_zero (s := Finset.univ) (f := fun i : Fin 128 => f (Fin.natAdd 128 i)) (fun i _ => hz _ (by show (128 + i.val) / 128 ≠ 0; omega)), add_zero]
    exact Finset.sum_congr rfl fun k _ => congrArg f (Fin.ext (by show k.val = 128 * 0 + k.val; omega))
  | ⟨1, _⟩, hz =>
    rw [Finset.sum_eq_zero (s := Finset.univ) (f := fun i : Fin 128 => f (Fin.castAdd 128 i)) (fun i _ => hz _ (by show i.val / 128 ≠ 1; have := i.isLt; omega)), zero_add]
    exact Finset.sum_congr rfl fun k _ => congrArg f (Fin.ext (by show 128 + k.val = 128 * 1 + k.val; omega))

/-- The plane product at an index. -/
theorem dot_apply (A : FVec Ideal S64x256 .fp8e4m3) (B : FVec Ideal S256x256 .fp8e4m3) (r : Fin 64) (n : Fin 256) :
    matmul dot_S64x256_S256x256_S64x256_1_1_0_0_n_n none A B (constant S64x256 .f32 0x00000000#32) (ix2 r n)
      = ∑ q : Fin 256, A (ix2 r q) * B (ix2 n q) := by
  refine (Ideal.matmul_constant_zero_apply dot_S64x256_S256x256_S64x256_1_1_0_0_n_n none A B (ix2 r n)).trans ?_
  rw [← Equiv.sum_comp (contrEquiv1 dot_S64x256_S256x256_S64x256_1_1_0_0_n_n 256 rfl rfl).symm]
  refine Finset.sum_congr rfl fun c _ => ?_
  have c2 := contrEquiv1_symm_val dot_S64x256_S256x256_S64x256_1_1_0_0_n_n 256 rfl rfl c
  have l2 : dot_S64x256_S256x256_S64x256_1_1_0_0_n_n.lhsIdx (ix2 r n) ((contrEquiv1 _ 256 rfl rfl).symm c) = ix2 r c := by
    funext ax; apply Fin.ext
    match ax with
    | ⟨0, _⟩ => simp [DotDims.lhsIdx, dot_S64x256_S256x256_S64x256_1_1_0_0_n_n]; rfl
    | ⟨1, _⟩ => simp [DotDims.lhsIdx, dot_S64x256_S256x256_S64x256_1_1_0_0_n_n]; exact c2
  have r2 : dot_S64x256_S256x256_S64x256_1_1_0_0_n_n.rhsIdx (ix2 r n) ((contrEquiv1 _ 256 rfl rfl).symm c) = ix2 n c := by
    funext ax; apply Fin.ext
    match ax with
    | ⟨0, _⟩ => simp [DotDims.rhsIdx, dot_S64x256_S256x256_S64x256_1_1_0_0_n_n]; rfl
    | ⟨1, _⟩ => simp [DotDims.rhsIdx, dot_S64x256_S256x256_S64x256_1_1_0_0_n_n]; exact c2
  rw [l2, r2]

/-- The plane product of planes of codes and a block of weights, at an index. -/
theorem prodP_apply (l : Vec Ideal S20x64x256 .fp8e4m3) (w : Vec Ideal S1024x5120 .fp8e4m3) (c : ℕ) (hc : c < 4) (k : ℕ) (h : k < 20) (r : Fin 64) (n : Fin 256) :
    prodP l w c hc k h (ix2 r n) = ∑ q : Fin 256, l (ix3 ⟨k, h⟩ r q)
      * w (ix2 ⟨256 * c + n.val, by have := n.isLt; omega⟩ ⟨256 * k + q.val, by have := q.isLt; omega⟩) := by
  unfold prodP k0_pay385
  rw [dot_apply]
  refine Finset.sum_congr rfl fun q _ => ?_
  congr 1
  · rw [shapeCast_apply (s := S1x64x256) (t := S64x256) _ _ (ix2 r q) (ix3 0 r q) (by
      rw [Shape.rowMajor_val_two, Shape.rowMajor_val_three]; show (0 * 64 + r.val) * 256 + q.val = r.val * 256 + q.val; omega)]
    show l ((Rect.unit (s := S20x64x256) ![k, 0, 0] S1x64x256.size (inb_lhs k h)).emb (ix3 0 r q)) = _
    refine congrArg l (funext fun a => Fin.ext ?_)
    refine (Rect.idx_unit_val (s := S20x64x256) ![k, 0, 0] S1x64x256.size (inb_lhs k h) (ix3 0 r q) a).trans ?_
    match a with
    | ⟨0, _⟩ => rfl
    | ⟨1, _⟩ => exact Nat.zero_add _
    | ⟨2, _⟩ => exact Nat.zero_add _
  · show w ((Rect.unit (s := S1024x5120) ![256 * c, 256 * k] S256x256.size (inb_w c hc k h)).emb (ix2 n q)) = _
    refine congrArg w (funext fun a => Fin.ext ?_)
    refine (Rect.idx_unit_val (s := S1024x5120) ![256 * c, 256 * k] S256x256.size (inb_w c hc k h) (ix2 n q) a).trans ?_
    match a with
    | ⟨0, _⟩ => rfl
    | ⟨1, _⟩ => rfl

/-- The weight scale read. -/
theorem wsAt_apply (ws : Vec Ideal S8x40 .f32) (r : ℕ) (hr : r < 8) (g : ℕ) (h : g < 40) : wsAt ws r hr g h = ws (ix2 ⟨r, hr⟩ ⟨g, h⟩) := by
  unfold wsAt
  show ws ((Rect.unit (s := S8x40) ![r, g] S1x1.size (inb_ws r hr g h)).emb _) = _
  refine congrArg ws (funext fun a => Fin.ext ?_)
  refine (Rect.idx_unit_val (s := S8x40) ![r, g] S1x1.size (inb_ws r hr g h) _ a).trans ?_
  match a with
  | ⟨0, _⟩ => exact Nat.add_eq_left.mpr (Nat.lt_one_iff.mp (Fin.isLt _))
  | ⟨1, _⟩ => exact Nat.add_eq_left.mpr (Nat.lt_one_iff.mp (Fin.isLt _))

/-- The scale plane read. -/
theorem xs_apply (s : Vec Ideal S40x24x128 .f32) (g : ℕ) (h : g < 40) (i : Fin 24) (j : Fin 128) :
    k0_pay386 (View.ld s (Rect.unit (s := S40x24x128) ![g, 0, 0] S1x24x128.size (inb_plane g h))) (ix2 i j) = s (ix3 ⟨g, h⟩ i j) := by
  unfold k0_pay386
  rw [shapeCast_apply (s := S1x24x128) (t := S24x128) _ _ (ix2 i j) (ix3 0 i j) (by
      rw [Shape.rowMajor_val_two, Shape.rowMajor_val_three]; show (0 * 24 + i.val) * 128 + j.val = i.val * 128 + j.val; omega)]
  show s ((Rect.unit (s := S40x24x128) ![g, 0, 0] S1x24x128.size (inb_plane g h)).emb (ix3 0 i j)) = _
  refine congrArg s (funext fun a => Fin.ext ?_)
  refine (Rect.idx_unit_val (s := S40x24x128) ![g, 0, 0] S1x24x128.size (inb_plane g h) (ix3 0 i j) a).trans ?_
  match a with
  | ⟨0, _⟩ => rfl
  | ⟨1, _⟩ => exact Nat.zero_add _
  | ⟨2, _⟩ => exact Nat.zero_add _

section Out
variable (X : Vec Ideal S24x5120 .bf16) (hX : Normal X)
include hX

/-- One group's term, over any block of weights and their scales. -/
theorem termP_apply (w : Vec Ideal S1024x5120 .fp8e4m3) (ws : Vec Ideal S8x40 .f32) (c : ℕ) (hc : c < 4) (b : ℕ) (hb : b < 2) (g : ℕ) (h : g < 40) (i : Fin 24) (j : Fin 128) :
    termP (Lq X) (Xq X) w ws c hc b hb g h (ix2 i j)
      = (∑ k : Fin 128, code X i (col ⟨g, h⟩ k) * w (ix2 ⟨256 * c + (128 * b + j.val), by have := j.isLt; omega⟩ (col ⟨g, h⟩ k)))
        * (scl X i ⟨g, h⟩ * ws (ix2 ⟨2 * c + b, by omega⟩ ⟨g, h⟩)) := by
  have hi := i.isLt
  have hj := j.isLt
  unfold termP
  rw [mulf_apply, mulf_apply, xs_apply, Xq_apply X hX, broadcast_apply, wsAt_apply]
  refine congrArg (· * (scl X i ⟨g, h⟩ * ws (ix2 ⟨2 * c + b, by omega⟩ ⟨g, h⟩))) ?_
  rw [extractStridedSlice_apply (s := S64x256) (t := S24x128) _ _ _ (ix2 i j) (ix2 (⟨32 * (g % 2) + i.val, by omega⟩ : Fin 64) (⟨128 * b + j.val, by omega⟩ : Fin 256))
    (fun a => match a with | ⟨0, _⟩ => rfl | ⟨1, _⟩ => rfl)]
  rw [prodP_apply, sum_half _ ⟨g % 2, Nat.mod_lt _ (by decide)⟩ (fun q hq => by
    rw [Lq_off X _ _ _ (by show (32 * (g % 2) + i.val) / 32 ≠ q.val / 128; intro he; apply hq; show q.val / 128 = g % 2; omega), zero_mul])]
  refine Finset.sum_congr rfl fun k _ => ?_
  have hk := k.isLt
  rw [Lq_diag X hX ⟨g / 2, by omega⟩ ⟨g % 2, Nat.mod_lt _ (by decide)⟩ i k _ _ rfl rfl]
  have e1 : (⟨2 * (g / 2) + g % 2, by omega⟩ : Fin 40) = ⟨g, h⟩ := Fin.ext (by show 2 * (g / 2) + g % 2 = g; omega)
  have e2 : (⟨256 * (g / 2) + (128 * (g % 2) + k.val), by omega⟩ : Fin 5120) = col ⟨g, h⟩ k := Fin.ext (by show 256 * (g / 2) + (128 * (g % 2) + k.val) = 128 * g + k.val; omega)
  show code X i (col ⟨2 * (g / 2) + g % 2, _⟩ k) * w (ix2 _ ⟨256 * (g / 2) + (128 * (g % 2) + k.val), _⟩) = _
  rw [e1, e2]

/-- The accumulation is the sum over the groups. -/
theorem accN_apply (w : Vec Ideal S1024x5120 .fp8e4m3) (ws : Vec Ideal S8x40 .f32) (c : ℕ) (hc : c < 4) (b : ℕ) (hb : b < 2) (i : Fin 24) (j : Fin 128) :
    ∀ (n : ℕ) (h : n ≤ 40), accN (Lq X) (Xq X) w ws c hc b hb n h (ix2 i j)
      = ∑ g : Fin n, (∑ k : Fin 128, code X i (col ⟨g.val, by omega⟩ k) * w (ix2 ⟨256 * c + (128 * b + j.val), by have := j.isLt; omega⟩ (col ⟨g.val, by omega⟩ k)))
        * (scl X i ⟨g.val, by omega⟩ * ws (ix2 ⟨2 * c + b, by omega⟩ ⟨g.val, by omega⟩))
  | 0, h => by
    show Ideal.ofBits .f32 0x00000000#32 = _
    rw [Ideal.ofBits_zero_f32, Finset.univ_eq_empty, Finset.sum_empty]
  | n + 1, h => by
    rw [Fin.sum_univ_castSucc]
    show accN (Lq X) (Xq X) w ws c hc b hb n _ (ix2 i j) + termP (Lq X) (Xq X) w ws c hc b hb n h (ix2 i j) = _
    rw [accN_apply w ws c hc b hb i j n (Nat.le_of_succ_le h), termP_apply X hX]
    rfl

/-- A block of the accumulation, where the block of weights is that of the array. -/
theorem acc_block (W : SW.Idx → EReal) (S : SS.Idx → EReal) (t : ℕ) (ht : t < 54) (w : Vec Ideal S1024x5120 .fp8e4m3) (ws : Vec Ideal S8x40 .f32)
    (hw : ∀ (r : Fin 1024) (q : Fin 5120), w (ix2 r q) = W (ix2 ⟨1024 * t + r.val, by have := r.isLt; omega⟩ q))
    (hs : ∀ (r : Fin 8) (g : Fin 40), ws (ix2 r g) = S (ix2 ⟨8 * t + r.val, by have := r.isLt; omega⟩ g))
    (c : ℕ) (hc : c < 4) (b : ℕ) (hb : b < 2) (i : Fin 24) (j : Fin 128) (n : Fin 55296) (hn : n.val = 1024 * t + 256 * c + 128 * b + j.val) :
    accN (Lq X) (Xq X) w ws c hc b hb 40 le_rfl (ix2 i j) = acc X W S i n := by
  have hj := j.isLt
  rw [accN_apply X hX]
  unfold acc grp
  refine Finset.sum_congr rfl fun g _ => ?_
  rw [hs]
  have e1 : (⟨8 * t + (2 * c + b), by omega⟩ : Fin 432) = rowOf n := Fin.ext (by show 8 * t + (2 * c + b) = n.val / 128; omega)
  show _ * (scl X i g * S (ix2 ⟨8 * t + (2 * c + b), _⟩ g)) = _
  rw [e1]
  refine congrArg (· * (scl X i g * S (ix2 (rowOf n) g))) (Finset.sum_congr rfl fun k _ => ?_)
  rw [hw]
  have e2 : (⟨1024 * t + (256 * c + (128 * b + j.val)), by omega⟩ : Fin 55296) = n := Fin.ext (by show 1024 * t + (256 * c + (128 * b + j.val)) = n.val; omega)
  show code X i (col g k) * W (ix2 ⟨1024 * t + (256 * c + (128 * b + j.val)), _⟩ (col g k)) = _
  rw [e2]

/-- The kernel's output block. -/
theorem Yq_apply (W : SW.Idx → EReal) (S : SS.Idx → EReal) (W' : SW.Idx → EReal) (S' : SS.Idx → EReal) (t : ℕ) (ht : t < 54)
    (w : Vec Ideal S1024x5120 .fp8e4m3) (ws : Vec Ideal S8x40 .f32) (w' : Vec Ideal S1024x5120 .fp8e4m3) (ws' : Vec Ideal S8x40 .f32)
    (hw : ∀ (r : Fin 1024) (q : Fin 5120), w (ix2 r q) = W (ix2 ⟨1024 * t + r.val, by have := r.isLt; omega⟩ q))
    (hs : ∀ (r : Fin 8) (g : Fin 40), ws (ix2 r g) = S (ix2 ⟨8 * t + r.val, by have := r.isLt; omega⟩ g))
    (hw' : ∀ (r : Fin 1024) (q : Fin 5120), w' (ix2 r q) = W' (ix2 ⟨1024 * t + r.val, by have := r.isLt; omega⟩ q))
    (hs' : ∀ (r : Fin 8) (g : Fin 40), ws' (ix2 r g) = S' (ix2 ⟨8 * t + r.val, by have := r.isLt; omega⟩ g))
    (i : Fin 24) (r : Fin 1024) : Yq (Lq X) (Xq X) w ws w' ws' (ix2 i r) = out X W S W' S' i ⟨1024 * t + r.val, by have := r.isLt; omega⟩ := by
  have hr := r.isLt
  have ea := acc_block X hX W S t ht w ws hw hs (r.val / 128 / 2) (by omega) (r.val / 128 % 2) (Nat.mod_lt _ (by decide)) i ⟨r.val % 128, Nat.mod_lt _ (by decide)⟩
    ⟨1024 * t + r.val, by omega⟩ (by show 1024 * t + r.val = 1024 * t + 256 * (r.val / 128 / 2) + 128 * (r.val / 128 % 2) + r.val % 128; omega)
  have eb := acc_block X hX W' S' t ht w' ws' hw' hs' (r.val / 128 / 2) (by omega) (r.val / 128 % 2) (Nat.mod_lt _ (by decide)) i ⟨r.val % 128, Nat.mod_lt _ (by decide)⟩
    ⟨1024 * t + r.val, by omega⟩ (by show 1024 * t + r.val = 1024 * t + 256 * (r.val / 128 / 2) + 128 * (r.val / 128 % 2) + r.val % 128; omega)
  unfold out
  rw [← ea, ← eb]
  rfl

end Out

end Cert.KernelIdeal.Run
-- ==== Proof.KArrA.lean ====
/-
   The kernel's blocks at the ideal values: which block of each array a point reads or writes back, and that the blocks
   written back cover the results.
-/
module

public import proofs.«01_k».proof.Proof.KRun
public import proofs.«01_k».proof.Proof.KOut
public import Idealize.ShloMosaic.Lib.Pipeline.ValueKit

@[expose] public section

set_option maxRecDepth 16384

noncomputable section

namespace Cert.KernelIdeal.Run

open Cert.KernelIdeal Cert.KernelIdeal.Gen
open Idealize.ShloMosaic hiding ix1 ix2 ix3 ix4 eq_ix1 eq_ix2 eq_ix3 eq_ix4
open Idealize.ShloMosaic.TcCoe Idealize.ShloMosaic.ValueIdx Cert.Scalar Cert.Spec
open Idealize.ShloMosaic.Pipeline (Dat)

variable (m : (ℓ : Loc nD τ sig) → Buf (Elt Ideal) ℓ)

/-- The activations of core `c`. -/
abbrev x0 (c : Dev nD) : SX.Idx → EReal := flat (m ((c : Thread nD τ).loc main_arg0))
/-- The weights and their scales. -/
abbrev w1 (c : Dev nD) : SW.Idx → EReal := m ((c : Thread nD τ).loc main_arg1)
/-- The weights and their scales. -/
abbrev s2 (c : Dev nD) : SS.Idx → EReal := m ((c : Thread nD τ).loc main_arg2)
/-- The weights and their scales. -/
abbrev w3 (c : Dev nD) : SW.Idx → EReal := m ((c : Thread nD τ).loc main_arg3)
/-- The weights and their scales. -/
abbrev s4 (c : Dev nD) : SS.Idx → EReal := m ((c : Thread nD τ).loc main_arg4)

/-- The region finds the reshaped activations in the array of window 0. -/
theorem V_v0 (c : Dev nD) : V m c main_v0 = x0 m c := by
  refine (StableHlo.reshape_result (τ := τ) main_arg0 main_v0 (rfl : (.bf16 : EltTy) = .bf16) shapeCasts_S24x1x5120_S24x5120 (by exact ⟨by decide, rfl⟩) (by exact ⟨by decide, rfl⟩) (fun b => m (c, b))).trans ?_
  funext y
  show shapeCast S24x5120 (m ((c : Thread nD τ).loc main_arg0)) shapeCasts_S24x1x5120_S24x5120 y = _
  obtain ⟨i, q, rfl⟩ : ∃ (i : Fin 24) (q : Fin 5120), y = ix2 i q := ⟨y 0, y 1, eq_ix2 y⟩
  refine shapeCast_apply (s := S24x1x5120) (t := S24x5120) _ _ (ix2 i q) (ix3 i 0 q) ?_
  rw [Shape.rowMajor_val_two, Shape.rowMajor_val_three]
  show (i.val * 1 + 0) * 5120 + q.val = i.val * 5120 + q.val
  omega

/-- Window 0 stays on its one block. -/
theorem ind0 : ∀ t : Fin cfg0.N, win0_0.index t = ![0, 0] := (by decide +kernel : ∀ t : Fin grid0.N, win0_0.index t = ![0, 0])
/-- Windows 1 to 4 move down a block at each point, -/
theorem ind1 : ∀ t : Fin cfg0.N, win0_1.index t = ![t.val, 0] := (by decide +kernel : ∀ t : Fin grid0.N, win0_1.index t = ![t.val, 0])
/-- Windows 1 to 4 move down a block at each point, -/
theorem ind2 : ∀ t : Fin cfg0.N, win0_2.index t = ![t.val, 0] := (by decide +kernel : ∀ t : Fin grid0.N, win0_2.index t = ![t.val, 0])
/-- Windows 1 to 4 move down a block at each point, -/
theorem ind3 : ∀ t : Fin cfg0.N, win0_3.index t = ![t.val, 0] := (by decide +kernel : ∀ t : Fin grid0.N, win0_3.index t = ![t.val, 0])
/-- Windows 1 to 4 move down a block at each point, -/
theorem ind4 : ∀ t : Fin cfg0.N, win0_4.index t = ![t.val, 0] := (by decide +kernel : ∀ t : Fin grid0.N, win0_4.index t = ![t.val, 0])
/-- window 5 moves right a block at each point, -/
theorem ind5 : ∀ t : Fin cfg0.N, win0_5.index t = ![0, t.val] := (by decide +kernel : ∀ t : Fin grid0.N, win0_5.index t = ![0, t.val])
/-- and windows 6 and 7 stay. -/
theorem ind6 : ∀ t : Fin cfg0.N, win0_6.index t = ![0, 0] := (by decide +kernel : ∀ t : Fin grid0.N, win0_6.index t = ![0, 0])
/-- and windows 6 and 7 stay. -/
theorem ind7 : ∀ t : Fin cfg0.N, win0_7.index t = ![0, 0] := (by decide +kernel : ∀ t : Fin grid0.N, win0_7.index t = ![0, 0])

/-- The kernel's activations are the argument's. -/
theorem act_eq (c : Dev nD) : act m c = x0 m c := by
  have h : ∀ (t : Fin cfg0.N) (i : Fin 24) (q : Fin 5120), iblk m c 0 t (ix2 i q) = x0 m c (ix2 i q) := fun t i q => by
    rw [← V_v0 m c]
    unfold iblk
    show V m c main_v0 ((win0_0.blk t).view.emb (ix2 i q)) = _
    refine congrArg (V m c main_v0) ?_
    funext a; apply Fin.ext
    match a with
    | ⟨0, _⟩ => blk_simp [ind0]
    | ⟨1, _⟩ => blk_simp [ind0]
  funext y
  obtain ⟨i, q, rfl⟩ : ∃ (i : Fin 24) (q : Fin 5120), y = ix2 i q := ⟨y 0, y 1, eq_ix2 y⟩
  exact h _ i q

/-- A block of weights is that of the array. -/
theorem iblk1_apply (c : Dev nD) (t : Fin cfg0.N) (r : Fin 1024) (q : Fin 5120) :
    iblk m c 1 t (ix2 r q) = w1 m c (ix2 ⟨1024 * t.val + r.val, by have := r.isLt; have := lt54 t; omega⟩ q) := by
  unfold w1
  rw [← V_main_arg1 m c]
  unfold iblk
  show V m c main_arg1 ((win0_1.blk t).view.emb (ix2 r q)) = _
  refine congrArg (V m c main_arg1) ?_
  funext a; apply Fin.ext
  match a with
  | ⟨0, _⟩ => blk_simp [ind1]; show t.val * 1024 + r.val = 1024 * t.val + r.val; omega
  | ⟨1, _⟩ => blk_simp [ind1]

/-- A block of weights is that of the array. -/
theorem iblk3_apply (c : Dev nD) (t : Fin cfg0.N) (r : Fin 1024) (q : Fin 5120) :
    iblk m c 3 t (ix2 r q) = w3 m c (ix2 ⟨1024 * t.val + r.val, by have := r.isLt; have := lt54 t; omega⟩ q) := by
  unfold w3
  rw [← V_main_arg3 m c]
  unfold iblk
  show V m c main_arg3 ((win0_3.blk t).view.emb (ix2 r q)) = _
  refine congrArg (V m c main_arg3) ?_
  funext a; apply Fin.ext
  match a with
  | ⟨0, _⟩ => blk_simp [ind3]; show t.val * 1024 + r.val = 1024 * t.val + r.val; omega
  | ⟨1, _⟩ => blk_simp [ind3]

/-- A block of the weights' scales is that of the array. -/
theorem iblk2_apply (c : Dev nD) (t : Fin cfg0.N) (r : Fin 8) (g : Fin 40) :
    iblk m c 2 t (ix2 r g) = s2 m c (ix2 ⟨8 * t.val + r.val, by have := r.isLt; have := lt54 t; omega⟩ g) := by
  unfold s2
  rw [← V_main_arg2 m c]
  unfold iblk
  show V m c main_arg2 ((win0_2.blk t).view.emb (ix2 r g)) = _
  refine congrArg (V m c main_arg2) ?_
  funext a; apply Fin.ext
  match a with
  | ⟨0, _⟩ => blk_simp [ind2]; show t.val * 8 + r.val = 8 * t.val + r.val; omega
  | ⟨1, _⟩ => blk_simp [ind2]

/-- A block of the weights' scales is that of the array. -/
theorem iblk4_apply (c : Dev nD) (t : Fin cfg0.N) (r : Fin 8) (g : Fin 40) :
    iblk m c 4 t (ix2 r g) = s4 m c (ix2 ⟨8 * t.val + r.val, by have := r.isLt; have := lt54 t; omega⟩ g) := by
  unfold s4
  rw [← V_main_arg4 m c]
  unfold iblk
  show V m c main_arg4 ((win0_4.blk t).view.emb (ix2 r g)) = _
  refine congrArg (V m c main_arg4) ?_
  funext a; apply Fin.ext
  match a with
  | ⟨0, _⟩ => blk_simp [ind4]; show t.val * 8 + r.val = 8 * t.val + r.val; omega
  | ⟨1, _⟩ => blk_simp [ind4]

/-- The blocks written back cover the arrays. -/
theorem cov5 : (cfg0.win 5).Covers := (by decide +kernel : win0_5.Covers)
/-- The blocks written back cover the arrays. -/
theorem cov6 : (cfg0.win 6).Covers := (by decide +kernel : win0_6.Covers)
/-- The blocks written back cover the arrays. -/
theorem cov7 : (cfg0.win 7).Covers := (by decide +kernel : win0_7.Covers)

end Cert.KernelIdeal.Run
-- ==== Proof.KArr.lean ====
/-
   The kernel's three result arrays at the ideal values: the blocks the points write back, put together.
-/
module

public import proofs.«01_k».proof.Proof.KArrA
public import Idealize.ShloMosaic.Lib.Pipeline.ValueKit

@[expose] public section

set_option maxRecDepth 16384

noncomputable section

namespace Cert.KernelIdeal.Run

open Cert.KernelIdeal Cert.KernelIdeal.Gen
open Idealize.ShloMosaic hiding ix1 ix2 ix3 ix4 eq_ix1 eq_ix2 eq_ix3 eq_ix4
open Idealize.ShloMosaic.TcCoe Idealize.ShloMosaic.ValueIdx Cert.Scalar Cert.Spec
open Idealize.ShloMosaic.Pipeline (Dat)

variable (m : (ℓ : Loc nD τ sig) → Buf (Elt Ideal) ℓ)

section Final
variable (c : Dev nD) (hX : Normal (x0 m c))
include hX

/-- The kernel's outputs. -/
theorem final5 : (dats m 0 c).arrAt 5 cfg0.N = outs (x0 m c) (w1 m c) (s2 m c) (w3 m c) (s4 m c) := by
  refine (dats m 0 c).arrAt_eq_of_covers 5 _ cov5 fun t hf y => ?_
  rw [after5]
  unfold yAt
  rw [act_eq]
  show Yq (Lq (x0 m c)) (Xq (x0 m c)) (iblk m c 1 t) (iblk m c 2 t) (iblk m c 3 t) (iblk m c 4 t) y = outs _ _ _ _ _ ((win0_5.blk t).view.emb y)
  obtain ⟨i, r, rfl⟩ : ∃ (i : Fin 24) (r : Fin 1024), y = ix2 i r := ⟨y 0, y 1, eq_ix2 y⟩
  refine (Yq_apply (x0 m c) hX (w1 m c) (s2 m c) (w3 m c) (s4 m c) t.val (lt54 t) _ _ _ _ (iblk1_apply m c t) (iblk2_apply m c t) (iblk3_apply m c t) (iblk4_apply m c t) i r).trans ?_
  unfold outs
  congr 1
  · apply Fin.ext
    blk_simp [ind5]
  · apply Fin.ext
    blk_simp [ind5]; show 1024 * t.val + r.val = t.val * 1024 + r.val; omega

/-- The kernel's codes. -/
theorem final6 : (dats m 0 c).arrAt 6 cfg0.N = codes (x0 m c) := by
  have e : Cq (F := Ideal) (x0 m c) = codes (x0 m c) := funext fun y => by
    obtain ⟨i, r, rfl⟩ : ∃ (i : Fin 24) (r : Fin 5120), y = ix2 i r := ⟨y 0, y 1, eq_ix2 y⟩
    exact Cq_apply (x0 m c) hX i r
  refine (dats m 0 c).arrAt_eq_of_covers 6 _ cov6 fun t hf y => ?_
  rw [after6, act_eq, e]
  blk_simp
  refine congrArg (codes (x0 m c)) ?_
  funext a; apply Fin.ext
  match a with
  | ⟨0, _⟩ => blk_simp [ind6]
  | ⟨1, _⟩ => blk_simp [ind6]

/-- The kernel's scales. -/
theorem final7 : (dats m 0 c).arrAt 7 cfg0.N = scls (x0 m c) := by
  have e : Sq (F := Ideal) (x0 m c) = scls (x0 m c) := funext fun y => by
    obtain ⟨i, r, rfl⟩ : ∃ (i : Fin 24) (r : Fin 40), y = ix2 i r := ⟨y 0, y 1, eq_ix2 y⟩
    exact Sq_apply (x0 m c) hX i r
  refine (dats m 0 c).arrAt_eq_of_covers 7 _ cov7 fun t hf y => ?_
  rw [after7, act_eq, e]
  blk_simp
  refine congrArg (scls (x0 m c)) ?_
  funext a; apply Fin.ext
  match a with
  | ⟨0, _⟩ => blk_simp [ind7]
  | ⟨1, _⟩ => blk_simp [ind7]

end Final

end Cert.KernelIdeal.Run
-- ==== Proof.RVal.lean ====
/-
   The reference's values at the ideal values: its codes, its scales and its gated output in closed form.
-/
module

public import proofs.«01_k».proof.Proof.Gen.ReferenceIdeal.Value
public import proofs.«01_k».proof.Proof.Spec
public import Idealize.ShloMosaic.Lib.ValueIdx
public import Idealize.ShloMosaic.PureOps.Ideal.Laws

@[expose] public section

set_option maxRecDepth 16384

noncomputable section

namespace Cert.ReferenceIdeal.Run

open Cert.ReferenceIdeal.Gen
open Idealize.ShloMosaic Idealize.ShloMosaic.TcCoe
open Idealize.ShloMosaic.ValueIdx Cert.Scalar Cert.Spec

/-- The grouped activations at an index. -/
theorem pay3_apply (X : Vec Ideal S24x5120 .bf16) (i : Fin 24) (g : Fin 40) (k : Fin 128) : k0_pay3 X (ix3 i g k) = X (ix2 i (col g k)) := by
  unfold k0_pay3
  rw [shapeCast_apply (s := S24x5120) (t := S24x40x128) _ _ (ix3 i g k) (ix2 i (col g k)) (by
    rw [Shape.rowMajor_val_two, Shape.rowMajor_val_three]; show i.val * 5120 + (128 * g.val + k.val) = (i.val * 40 + g.val) * 128 + k.val; omega)]
  rw [extf_apply, shapeCast_self]

/-- A group's maximum. -/
theorem rowmax (w : FVec Ideal S24x40x128 .f32) (hφ : FKind.Formats .f32) (hacc : (0xFF800000#32 : BitVec 32) = FKind.maximumf.neutral .f32 hφ) (i : Fin 24) (g : Fin 40) :
    multiReduction .maximumf [2] S24x40 w 0xFF800000#32 reduces_S24x40x128_S24x40 hφ hacc (ix2 i g) = (Finset.univ : Finset (Fin 128)).fold max ⊥ (fun k => w (ix3 i g k)) := by
  refine (Ideal.multiReduction_maximumf_single w _ reduces_S24x40x128_S24x40 hφ hacc (ix2 i g)).trans ?_
  show Finset.fold max (Ideal.ofBits .f32 0xFF800000#32) _ _ = _
  rw [ofBits_neg_inf]
  refine Finset.fold_congr fun k _ => ?_
  have e : reduces_S24x40x128_S24x40.lift (ix2 i g) k = ix3 i g k := by
    funext a; match a with | ⟨0, _⟩ => rfl | ⟨1, _⟩ => rfl | ⟨2, _⟩ => rfl
  exact congrArg w e

/-- The sum over the groups. -/
theorem grpsum (w : FVec Ideal S40x24x432x128 .f32) (hφ : FKind.Formats .f32) (hacc : (0x00000000#32 : BitVec 32) = FKind.add.neutral .f32 hφ) (i : Fin 24) (n : Fin 432) (l : Fin 128) :
    multiReduction .add [0] S24x432x128 w 0x00000000#32 reduces_S40x24x432x128_S24x432x128 hφ hacc (ix3 i n l) = ∑ g : Fin 40, w (ix4 g i n l) := by
  refine (Ideal.multiReduction_add_single w _ reduces_S40x24x432x128_S24x432x128 hφ hacc (ix3 i n l)).trans ?_
  refine Finset.sum_congr rfl fun j _ => ?_
  have e : reduces_S40x24x432x128_S24x432x128.lift (ix3 i n l) j = ix4 j i n l := by
    funext a; match a with | ⟨0, _⟩ => rfl | ⟨1, _⟩ => rfl | ⟨2, _⟩ => rfl | ⟨3, _⟩ => rfl
  exact congrArg w e

/-- The largest magnitudes of the groups. -/
def mxR (X : Vec Ideal S24x5120 .bf16) : FVec Ideal S24x40 .f32 :=
  multiReduction .maximumf [2] S24x40 (absf (k0_pay3 X)) 0xFF800000#32 reduces_S24x40x128_S24x40 (.inl rfl) rfl

/-- The largest magnitude of a group at an index. -/
theorem mxR_apply (X : Vec Ideal S24x5120 .bf16) (i : Fin 24) (g : Fin 40) : mxR X (ix2 i g) = gm X i g := by
  unfold mxR gm
  refine (rowmax (absf (k0_pay3 X)) _ _ i g).trans ?_
  unfold amax
  refine Finset.fold_congr fun k _ => ?_
  show max (k0_pay3 X (ix3 i g k)) (-(k0_pay3 X (ix3 i g k))) = _
  rw [pay3_apply]

/-- Choosing by a comparison is choosing by its truth. -/
theorem select_cmp (b : Bool) (x y : EReal) : Scalar.select (BitVec.ofBool b) x y = bif b then x else y := by
  cases b <;> rfl

/-- The powers of two of a vector, -/
theorem exp2_at {s : Shape} (x : FVec Ideal s .f32) (y : s.Idx) : exp2 x y = Ideal.exp2 (x y) := rfl

/-- its logarithms, -/
theorem log_at {s : Shape} (x : FVec Ideal s .f32) (y : s.Idx) : log x y = Ideal.log (x y) := rfl

/-- and its floors, at an index. -/
theorem floor_at {s : Shape} (x : FVec Ideal s .f32) (y : s.Idx) : floor x y = Ideal.liftRound Int.floor (x y) := rfl

/-- A group's exponent. -/
theorem pay4_apply (X : Vec Ideal S24x5120 .bf16) (i : Fin 24) (g : Fin 40) : k0_pay4 X (ix2 i g) = rexp (gm X i g) := by
  have e : k0_pay4 X = select (cmpf .ogt (mxR X) (broadcast S24x40 (Scalar.ofBits .f32 0x00000000#32)))
      (addf (floor (divf (log (mulf (mxR X) (broadcast S24x40 (Scalar.ofBits .f32 0x3B124925#32)))) (broadcast S24x40 (Scalar.log (Scalar.ofBits .f32 0x40000000#32))))) (broadcast S24x40 (Scalar.ofBits .f32 0x3F800000#32)))
      (broadcast S24x40 (Scalar.ofBits .f32 0x00000000#32)) := by
    unfold k0_pay4 mxR; rfl
  rw [e, select_apply, cmpf_apply, addf_apply, floor_at, divf_apply, log_at, mulf_apply, mxR_apply]
  unfold rexp
  rw [← select_cmp]
  rfl

/-- The reference's scales. -/
theorem pay5_apply (X : Vec Ideal S24x5120 .bf16) (i : Fin 24) (g : Fin 40) : k0_pay5 X (ix2 i g) = scl X i g := by
  unfold k0_pay5 scl
  rw [exp2_at, pay4_apply]

/-- The reference's codes, by group. -/
theorem pay6_apply (X : Vec Ideal S24x5120 .bf16) (i : Fin 24) (g : Fin 40) (k : Fin 128) : k0_pay6 X (ix3 i g k) = code X i (col g k) := by
  unfold k0_pay6 code Spec.inv
  rw [truncf_apply, minimumf_apply, maximumf_apply, mulf_apply, pay3_apply, grpOf_col]
  rw [broadcastTo_apply (s := S24x40x1) (t := S24x40x128) _ _ (ix3 i g k) (ix3 i g 0) (fun a => match a with | ⟨0, _⟩ => rfl | ⟨1, _⟩ => rfl | ⟨2, _⟩ => rfl)]
  rw [shapeCast_apply (s := S24x40) (t := S24x40x1) _ _ (ix3 i g 0) (ix2 i g) (by
    rw [Shape.rowMajor_val_two, Shape.rowMajor_val_three]; show i.val * 40 + g.val = (i.val * 40 + g.val) * 1 + 0; omega)]
  rw [exp2_at, subf_apply, pay4_apply]
  show min (Ideal.ofBits .f32 0x43E00000#32) (max (Ideal.ofBits .f32 0xC3E00000#32) (X (ix2 i (col g k)) * Ideal.exp2 (Ideal.ofBits .f32 0x00000000#32 - rexp (gm X i g)))) = _
  rw [Ideal.ofBits_zero_f32]

/-- The reference's codes. -/
theorem pay2_apply (X : Vec Ideal S24x5120 .bf16) (i : Fin 24) (c : Fin 5120) : k0_pay2 (k0_pay6 X) (ix2 i c) = code X i c := by
  have hc := c.isLt
  have := pay6_apply X i ⟨c.val / 128, by omega⟩ ⟨c.val % 128, Nat.mod_lt _ (by decide)⟩
  rw [show col ⟨c.val / 128, by omega⟩ ⟨c.val % 128, Nat.mod_lt _ (by decide)⟩ = c from Fin.ext (by show 128 * (c.val / 128) + c.val % 128 = c.val; omega)] at this
  rw [← this]
  unfold k0_pay2
  exact shapeCast_apply (s := S24x40x128) (t := S24x5120) _ _ _ _ (by
    rw [Shape.rowMajor_val_two, Shape.rowMajor_val_three]; show (i.val * 40 + c.val / 128) * 128 + c.val % 128 = i.val * 5120 + c.val; omega)

/-- The grouped product at an index. -/
theorem dot_apply (A : FVec Ideal S24x40x128 .fp8e4m3) (B : FVec Ideal S55296x40x128 .fp8e4m3) (g : Fin 40) (i : Fin 24) (n : Fin 55296) :
    matmul dot_S24x40x128_S55296x40x128_S40x24x55296_2_2_0_0_1_1 none A B (constant S40x24x55296 .f32 0x00000000#32) (ix3 g i n)
      = ∑ q : Fin 128, A (ix3 i g q) * B (ix3 n g q) := by
  refine (Ideal.matmul_constant_zero_apply dot_S24x40x128_S55296x40x128_S40x24x55296_2_2_0_0_1_1 none A B (ix3 g i n)).trans ?_
  rw [← Equiv.sum_comp (contrEquiv1 dot_S24x40x128_S55296x40x128_S40x24x55296_2_2_0_0_1_1 128 rfl rfl).symm]
  refine Finset.sum_congr rfl fun c _ => ?_
  have c2 := contrEquiv1_symm_val dot_S24x40x128_S55296x40x128_S40x24x55296_2_2_0_0_1_1 128 rfl rfl c
  have l2 : dot_S24x40x128_S55296x40x128_S40x24x55296_2_2_0_0_1_1.lhsIdx (ix3 g i n) ((contrEquiv1 _ 128 rfl rfl).symm c) = ix3 i g c := by
    funext ax; apply Fin.ext
    match ax with
    | ⟨0, _⟩ => simp [DotDims.lhsIdx, dot_S24x40x128_S55296x40x128_S40x24x55296_2_2_0_0_1_1]; rfl
    | ⟨1, _⟩ => simp [DotDims.lhsIdx, dot_S24x40x128_S55296x40x128_S40x24x55296_2_2_0_0_1_1]; rfl
    | ⟨2, _⟩ => simp [DotDims.lhsIdx, dot_S24x40x128_S55296x40x128_S40x24x55296_2_2_0_0_1_1]; exact c2
  have r2 : dot_S24x40x128_S55296x40x128_S40x24x55296_2_2_0_0_1_1.rhsIdx (ix3 g i n) ((contrEquiv1 _ 128 rfl rfl).symm c) = ix3 n g c := by
    funext ax; apply Fin.ext
    match ax with
    | ⟨0, _⟩ => simp [DotDims.rhsIdx, dot_S24x40x128_S55296x40x128_S40x24x55296_2_2_0_0_1_1]; rfl
    | ⟨1, _⟩ => simp [DotDims.rhsIdx, dot_S24x40x128_S55296x40x128_S40x24x55296_2_2_0_0_1_1]; rfl
    | ⟨2, _⟩ => simp [DotDims.rhsIdx, dot_S24x40x128_S55296x40x128_S40x24x55296_2_2_0_0_1_1]; exact c2
  rw [l2, r2]

/-- Output column `l` of output group `n`. -/
def ncol (n : Fin 432) (l : Fin 128) : Fin 55296 := ⟨128 * n.val + l.val, by have := n.isLt; have := l.isLt; omega⟩

/-- Its output group. -/
theorem rowOf_ncol (n : Fin 432) (l : Fin 128) : rowOf (ncol n l) = n := Fin.ext (by show (128 * n.val + l.val) / 128 = n.val; have := l.isLt; omega)

/-- The groups' products at an index. -/
theorem pay7_apply (X : Vec Ideal S24x5120 .bf16) (W : Vec Ideal S55296x5120 .fp8e4m3) (g : Fin 40) (i : Fin 24) (n : Fin 432) (l : Fin 128) :
    k0_pay7 X W (ix4 g i n l) = grp X W i (ncol n l) g := by
  unfold k0_pay7 grp
  rw [shapeCast_apply (s := S40x24x55296) (t := S40x24x432x128) _ _ (ix4 g i n l) (ix3 g i (ncol n l)) (by
    rw [Shape.rowMajor_val_four, Shape.rowMajor_val_three]
    show (g.val * 24 + i.val) * 55296 + (128 * n.val + l.val) = ((g.val * 24 + i.val) * 432 + n.val) * 128 + l.val; omega)]
  rw [dot_apply]
  refine Finset.sum_congr rfl fun k _ => ?_
  rw [pay6_apply]
  refine congrArg (code X i (col g k) * ·) ?_
  exact shapeCast_apply (s := S55296x5120) (t := S55296x40x128) _ _ _ _ (by
    rw [Shape.rowMajor_val_two, Shape.rowMajor_val_three]
    show (128 * n.val + l.val) * 5120 + (128 * g.val + k.val) = ((128 * n.val + l.val) * 40 + g.val) * 128 + k.val; omega)

/-- The groups' scales at an index. -/
theorem pay8_apply (X : Vec Ideal S24x5120 .bf16) (S : Vec Ideal S432x40 .f32) (g : Fin 40) (i : Fin 24) (n : Fin 432) (l : Fin 128) :
    k0_pay8 X S (ix4 g i n l) = scl X i g * S (ix2 n g) := by
  unfold k0_pay8
  rw [broadcastTo_apply (s := S40x24x432x1) (t := S40x24x432x128) _ _ (ix4 g i n l) (ix4 g i n 0)
    (fun a => match a with | ⟨0, _⟩ => rfl | ⟨1, _⟩ => rfl | ⟨2, _⟩ => rfl | ⟨3, _⟩ => rfl)]
  rw [mulf_apply]
  rw [broadcastTo_apply (s := S40x24x1x1) (t := S40x24x432x1) _ _ (ix4 g i n 0) (ix4 g i 0 0)
    (fun a => match a with | ⟨0, _⟩ => rfl | ⟨1, _⟩ => rfl | ⟨2, _⟩ => rfl | ⟨3, _⟩ => rfl)]
  rw [broadcastTo_apply (s := S40x1x432x1) (t := S40x24x432x1) _ _ (ix4 g i n 0) (ix4 g 0 n 0)
    (fun a => match a with | ⟨0, _⟩ => rfl | ⟨1, _⟩ => rfl | ⟨2, _⟩ => rfl | ⟨3, _⟩ => rfl)]
  rw [shapeCast_apply (s := S40x24) (t := S40x24x1x1) _ _ (ix4 g i 0 0) (ix2 g i) (by
    rw [Shape.rowMajor_val_four, Shape.rowMajor_val_two]; show g.val * 24 + i.val = ((g.val * 24 + i.val) * 1 + 0) * 1 + 0; omega)]
  rw [shapeCast_apply (s := S40x432) (t := S40x1x432x1) _ _ (ix4 g 0 n 0) (ix2 g n) (by
    rw [Shape.rowMajor_val_four, Shape.rowMajor_val_two]; show g.val * 432 + n.val = ((g.val * 1 + 0) * 432 + n.val) * 1 + 0; omega)]
  rw [transpose_apply (s := S24x40) (t := S40x24) _ _ _ (ix2 g i) (ix2 i g) (fun b => match b with | ⟨0, _⟩ => rfl | ⟨1, _⟩ => rfl)]
  rw [transpose_apply (s := S432x40) (t := S40x432) _ _ _ (ix2 g n) (ix2 n g) (fun b => match b with | ⟨0, _⟩ => rfl | ⟨1, _⟩ => rfl)]
  rw [pay5_apply]

/-- The scaled sum over the groups, as the reference sums it. -/
def accR (X : Vec Ideal S24x5120 .bf16) (W : Vec Ideal S55296x5120 .fp8e4m3) (S : Vec Ideal S432x40 .f32) : FVec Ideal S24x55296 .f32 :=
  shapeCast S24x55296 (multiReduction .add [0] S24x432x128 (mulf (k0_pay7 X W) (k0_pay8 X S)) 0x00000000#32 reduces_S40x24x432x128_S24x432x128 (.inl rfl) rfl) shapeCasts_S24x432x128_S24x55296

/-- The scaled sum over the groups at an index. -/
theorem accR_apply (X : Vec Ideal S24x5120 .bf16) (W : Vec Ideal S55296x5120 .fp8e4m3) (S : Vec Ideal S432x40 .f32) (i : Fin 24) (n : Fin 55296) :
    accR X W S (ix2 i n) = acc X W S i n := by
  have hn := n.isLt
  unfold accR acc
  rw [shapeCast_apply (s := S24x432x128) (t := S24x55296) _ _ (ix2 i n) (ix3 i (rowOf n) ⟨n.val % 128, Nat.mod_lt _ (by decide)⟩) (by
    rw [Shape.rowMajor_val_two, Shape.rowMajor_val_three]; show (i.val * 432 + n.val / 128) * 128 + n.val % 128 = i.val * 55296 + n.val; omega)]
  refine (grpsum _ _ _ i _ _).trans ?_
  refine Finset.sum_congr rfl fun g _ => ?_
  rw [mulf_apply, pay7_apply, pay8_apply]
  rw [show ncol (rowOf n) ⟨n.val % 128, Nat.mod_lt _ (by decide)⟩ = n from Fin.ext (by show 128 * (n.val / 128) + n.val % 128 = n.val; omega)]

/-- The reference's output. -/
theorem pay1_apply (X : Vec Ideal S24x5120 .bf16) (W : Vec Ideal S55296x5120 .fp8e4m3) (S : Vec Ideal S432x40 .f32)
    (W' : Vec Ideal S55296x5120 .fp8e4m3) (S' : Vec Ideal S432x40 .f32) (i : Fin 24) (n : Fin 55296) :
    k0_pay1 (k0_pay5 X) (k0_pay6 X) (k0_pay7 X W) (k0_pay8 X S) W' S' (ix2 i n) = out X W S W' S' i n := by
  unfold out
  rw [← accR_apply, ← accR_apply]
  rfl

end Cert.ReferenceIdeal.Run
-- ==== Proof.RArr.lean ====
/-
   The reference's three result arrays at the ideal values: its one point writes each array whole.
-/
module

public import proofs.«01_k».proof.Proof.RVal
public import Idealize.ShloMosaic.Lib.Pipeline.ValueKit

@[expose] public section

set_option maxRecDepth 16384

noncomputable section

namespace Cert.ReferenceIdeal.Run

open Cert.ReferenceIdeal Cert.ReferenceIdeal.Gen
open Idealize.ShloMosaic hiding ix1 ix2 ix3 ix4 eq_ix1 eq_ix2 eq_ix3 eq_ix4
open Idealize.ShloMosaic.TcCoe Idealize.ShloMosaic.ValueIdx Cert.Scalar Cert.Spec
open Idealize.ShloMosaic.Pipeline (Dat)

variable (m : (ℓ : Loc nD τ sig) → Buf (Elt Ideal) ℓ)

/-- The activations of core `c`. -/
abbrev x0 (c : Dev nD) : SX.Idx → EReal := flat (m ((c : Thread nD τ).loc main_arg0))
/-- The weights and their scales. -/
abbrev w1 (c : Dev nD) : SW.Idx → EReal := m ((c : Thread nD τ).loc main_arg1)
/-- The weights and their scales. -/
abbrev s2 (c : Dev nD) : SS.Idx → EReal := m ((c : Thread nD τ).loc main_arg2)
/-- The weights and their scales. -/
abbrev w3 (c : Dev nD) : SW.Idx → EReal := m ((c : Thread nD τ).loc main_arg3)
/-- The weights and their scales. -/
abbrev s4 (c : Dev nD) : SS.Idx → EReal := m ((c : Thread nD τ).loc main_arg4)

/-- The region finds the reshaped activations in the array of window 0. -/
theorem V_v0 (c : Dev nD) : V m c main_v0 = x0 m c := by
  refine (StableHlo.reshape_result (τ := τ) main_arg0 main_v0 (rfl : (.bf16 : EltTy) = .bf16) shapeCasts_S24x1x5120_S24x5120 (by exact ⟨by decide, rfl⟩) (by exact ⟨by decide, rfl⟩) (fun b => m (c, b))).trans ?_
  funext y
  show shapeCast S24x5120 (m ((c : Thread nD τ).loc main_arg0)) shapeCasts_S24x1x5120_S24x5120 y = _
  obtain ⟨i, q, rfl⟩ : ∃ (i : Fin 24) (q : Fin 5120), y = ix2 i q := ⟨y 0, y 1, eq_ix2 y⟩
  refine shapeCast_apply (s := S24x1x5120) (t := S24x5120) _ _ (ix2 i q) (ix3 i 0 q) ?_
  rw [Shape.rowMajor_val_two, Shape.rowMajor_val_three]
  show (i.val * 1 + 0) * 5120 + q.val = i.val * 5120 + q.val
  omega

/-- Every window is on its one block. -/
theorem ind0 : ∀ t : Fin cfg0.N, win0_0.index t = ![0, 0] := (by decide +kernel : ∀ t : Fin grid0.N, win0_0.index t = ![0, 0])
/-- Every window is on its one block. -/
theorem ind1 : ∀ t : Fin cfg0.N, win0_1.index t = ![0, 0] := (by decide +kernel : ∀ t : Fin grid0.N, win0_1.index t = ![0, 0])
/-- Every window is on its one block. -/
theorem ind2 : ∀ t : Fin cfg0.N, win0_2.index t = ![0, 0] := (by decide +kernel : ∀ t : Fin grid0.N, win0_2.index t = ![0, 0])
/-- Every window is on its one block. -/
theorem ind3 : ∀ t : Fin cfg0.N, win0_3.index t = ![0, 0] := (by decide +kernel : ∀ t : Fin grid0.N, win0_3.index t = ![0, 0])
/-- Every window is on its one block. -/
theorem ind4 : ∀ t : Fin cfg0.N, win0_4.index t = ![0, 0] := (by decide +kernel : ∀ t : Fin grid0.N, win0_4.index t = ![0, 0])
/-- Every window is on its one block. -/
theorem ind5 : ∀ t : Fin cfg0.N, win0_5.index t = ![0, 0] := (by decide +kernel : ∀ t : Fin grid0.N, win0_5.index t = ![0, 0])
/-- Every window is on its one block. -/
theorem ind6 : ∀ t : Fin cfg0.N, win0_6.index t = ![0, 0] := (by decide +kernel : ∀ t : Fin grid0.N, win0_6.index t = ![0, 0])
/-- Every window is on its one block. -/
theorem ind7 : ∀ t : Fin cfg0.N, win0_7.index t = ![0, 0] := (by decide +kernel : ∀ t : Fin grid0.N, win0_7.index t = ![0, 0])

/-- An input's block is the array. -/
theorem iblk0_eq (c : Dev nD) (t : Fin cfg0.N) : iblk m c 0 t = x0 m c := by
  have h : ∀ (i : Fin 24) (q : Fin 5120), iblk m c 0 t (ix2 i q) = x0 m c (ix2 i q) := fun i q => by
    rw [← V_v0 m c]
    unfold iblk
    show V m c main_v0 ((win0_0.blk t).view.emb (ix2 i q)) = _
    refine congrArg (V m c main_v0) ?_
    funext a; apply Fin.ext
    match a with
    | ⟨0, _⟩ => blk_simp [ind0]
    | ⟨1, _⟩ => blk_simp [ind0]
  funext y
  obtain ⟨i, q, rfl⟩ : ∃ (i : Fin 24) (q : Fin 5120), y = ix2 i q := ⟨y 0, y 1, eq_ix2 y⟩
  exact h i q

/-- An input's block is the array. -/
theorem iblk1_eq (c : Dev nD) (t : Fin cfg0.N) : iblk m c 1 t = w1 m c := by
  have h : ∀ (i : Fin 55296) (q : Fin 5120), iblk m c 1 t (ix2 i q) = w1 m c (ix2 i q) := fun i q => by
    unfold w1
    rw [← V_main_arg1 m c]
    unfold iblk
    show V m c main_arg1 ((win0_1.blk t).view.emb (ix2 i q)) = _
    refine congrArg (V m c main_arg1) ?_
    funext a; apply Fin.ext
    match a with
    | ⟨0, _⟩ => blk_simp [ind1]
    | ⟨1, _⟩ => blk_simp [ind1]
  funext y
  obtain ⟨i, q, rfl⟩ : ∃ (i : Fin 55296) (q : Fin 5120), y = ix2 i q := ⟨y 0, y 1, eq_ix2 y⟩
  exact h i q

/-- An input's block is the array. -/
theorem iblk2_eq (c : Dev nD) (t : Fin cfg0.N) : iblk m c 2 t = s2 m c := by
  have h : ∀ (i : Fin 432) (q : Fin 40), iblk m c 2 t (ix2 i q) = s2 m c (ix2 i q) := fun i q => by
    unfold s2
    rw [← V_main_arg2 m c]
    unfold iblk
    show V m c main_arg2 ((win0_2.blk t).view.emb (ix2 i q)) = _
    refine congrArg (V m c main_arg2) ?_
    funext a; apply Fin.ext
    match a with
    | ⟨0, _⟩ => blk_simp [ind2]
    | ⟨1, _⟩ => blk_simp [ind2]
  funext y
  obtain ⟨i, q, rfl⟩ : ∃ (i : Fin 432) (q : Fin 40), y = ix2 i q := ⟨y 0, y 1, eq_ix2 y⟩
  exact h i q

/-- An input's block is the array. -/
theorem iblk3_eq (c : Dev nD) (t : Fin cfg0.N) : iblk m c 3 t = w3 m c := by
  have h : ∀ (i : Fin 55296) (q : Fin 5120), iblk m c 3 t (ix2 i q) = w3 m c (ix2 i q) := fun i q => by
    unfold w3
    rw [← V_main_arg3 m c]
    unfold iblk
    show V m c main_arg3 ((win0_3.blk t).view.emb (ix2 i q)) = _
    refine congrArg (V m c main_arg3) ?_
    funext a; apply Fin.ext
    match a with
    | ⟨0, _⟩ => blk_simp [ind3]
    | ⟨1, _⟩ => blk_simp [ind3]
  funext y
  obtain ⟨i, q, rfl⟩ : ∃ (i : Fin 55296) (q : Fin 5120), y = ix2 i q := ⟨y 0, y 1, eq_ix2 y⟩
  exact h i q

/-- An input's block is the array. -/
theorem iblk4_eq (c : Dev nD) (t : Fin cfg0.N) : iblk m c 4 t = s4 m c := by
  have h : ∀ (i : Fin 432) (q : Fin 40), iblk m c 4 t (ix2 i q) = s4 m c (ix2 i q) := fun i q => by
    unfold s4
    rw [← V_main_arg4 m c]
    unfold iblk
    show V m c main_arg4 ((win0_4.blk t).view.emb (ix2 i q)) = _
    refine congrArg (V m c main_arg4) ?_
    funext a; apply Fin.ext
    match a with
    | ⟨0, _⟩ => blk_simp [ind4]
    | ⟨1, _⟩ => blk_simp [ind4]
  funext y
  obtain ⟨i, q, rfl⟩ : ∃ (i : Fin 432) (q : Fin 40), y = ix2 i q := ⟨y 0, y 1, eq_ix2 y⟩
  exact h i q

/-- The block written back covers the array. -/
theorem cov5 : (cfg0.win 5).Covers := (by decide +kernel : win0_5.Covers)
/-- The block written back covers the array. -/
theorem cov6 : (cfg0.win 6).Covers := (by decide +kernel : win0_6.Covers)
/-- The block written back covers the array. -/
theorem cov7 : (cfg0.win 7).Covers := (by decide +kernel : win0_7.Covers)

section Final
variable (c : Dev nD)

/-- What the reference leaves in result 0. -/
theorem out5_eq (X : Vec Ideal S24x5120 .bf16) (W : Vec Ideal S55296x5120 .fp8e4m3) (S : Vec Ideal S432x40 .f32) (W' : Vec Ideal S55296x5120 .fp8e4m3) (S' : Vec Ideal S432x40 .f32) :
    out0_5 X W S W' S' = outs X W S W' S' := by
  unfold_out out0_5
  refine (View.canon_cons_unit_lit _ _ [] (by decide)).trans ?_
  rw [View.ld_unit_lit _ X (by decide), View.ld_unit_lit _ W (by decide), View.ld_unit_lit _ S (by decide), View.ld_unit_lit _ W' (by decide), View.ld_unit_lit _ S' (by decide)]
  funext y
  obtain ⟨i, q, rfl⟩ : ∃ (i : Fin 24) (q : Fin 55296), y = ix2 i q := ⟨y 0, y 1, eq_ix2 y⟩
  exact pay1_apply X W S W' S' i q

/-- The reference's result 0. -/
theorem final5 : (dats m 0 c).arrAt 5 cfg0.N = outs (x0 m c) (w1 m c) (s2 m c) (w3 m c) (s4 m c) := by
  refine (dats m 0 c).arrAt_eq_of_covers 5 _ cov5 fun t hf y => ?_
  rw [after0_5, iblk0_eq, iblk1_eq, iblk2_eq, iblk3_eq, iblk4_eq]
  rw [show out0_5 (F := Ideal) (x0 m c) (w1 m c) (s2 m c) (w3 m c) (s4 m c) = outs (x0 m c) (w1 m c) (s2 m c) (w3 m c) (s4 m c) from out5_eq (x0 m c) (w1 m c) (s2 m c) (w3 m c) (s4 m c)]
  blk_simp
  refine congrArg (outs (x0 m c) (w1 m c) (s2 m c) (w3 m c) (s4 m c)) ?_
  funext a; apply Fin.ext
  match a with
  | ⟨0, _⟩ => blk_simp [ind5]
  | ⟨1, _⟩ => blk_simp [ind5]

/-- What the reference leaves in result 1. -/
theorem out6_eq (X : Vec Ideal S24x5120 .bf16) (W : Vec Ideal S55296x5120 .fp8e4m3) (S : Vec Ideal S432x40 .f32) (W' : Vec Ideal S55296x5120 .fp8e4m3) (S' : Vec Ideal S432x40 .f32) :
    out0_6 X W S W' S' = codes X := by
  unfold_out out0_6
  refine (View.canon_cons_unit_lit _ _ [] (by decide)).trans ?_
  rw [View.ld_unit_lit _ X (by decide)]
  funext y
  obtain ⟨i, q, rfl⟩ : ∃ (i : Fin 24) (q : Fin 5120), y = ix2 i q := ⟨y 0, y 1, eq_ix2 y⟩
  exact pay2_apply X i q

/-- The reference's result 1. -/
theorem final6 : (dats m 0 c).arrAt 6 cfg0.N = codes (x0 m c) := by
  refine (dats m 0 c).arrAt_eq_of_covers 6 _ cov6 fun t hf y => ?_
  rw [after0_6, iblk0_eq, iblk1_eq, iblk2_eq, iblk3_eq, iblk4_eq]
  rw [show out0_6 (F := Ideal) (x0 m c) (w1 m c) (s2 m c) (w3 m c) (s4 m c) = codes (x0 m c) from out6_eq (x0 m c) (w1 m c) (s2 m c) (w3 m c) (s4 m c)]
  blk_simp
  refine congrArg (codes (x0 m c)) ?_
  funext a; apply Fin.ext
  match a with
  | ⟨0, _⟩ => blk_simp [ind6]
  | ⟨1, _⟩ => blk_simp [ind6]

/-- What the reference leaves in result 2. -/
theorem out7_eq (X : Vec Ideal S24x5120 .bf16) (W : Vec Ideal S55296x5120 .fp8e4m3) (S : Vec Ideal S432x40 .f32) (W' : Vec Ideal S55296x5120 .fp8e4m3) (S' : Vec Ideal S432x40 .f32) :
    out0_7 X W S W' S' = scls X := by
  unfold_out out0_7
  refine (View.canon_cons_unit_lit _ _ [] (by decide)).trans ?_
  rw [View.ld_unit_lit _ X (by decide)]
  funext y
  obtain ⟨i, q, rfl⟩ : ∃ (i : Fin 24) (q : Fin 40), y = ix2 i q := ⟨y 0, y 1, eq_ix2 y⟩
  exact pay5_apply X i q

/-- The reference's result 2. -/
theorem final7 : (dats m 0 c).arrAt 7 cfg0.N = scls (x0 m c) := by
  refine (dats m 0 c).arrAt_eq_of_covers 7 _ cov7 fun t hf y => ?_
  rw [after0_7, iblk0_eq, iblk1_eq, iblk2_eq, iblk3_eq, iblk4_eq]
  rw [show out0_7 (F := Ideal) (x0 m c) (w1 m c) (s2 m c) (w3 m c) (s4 m c) = scls (x0 m c) from out7_eq (x0 m c) (w1 m c) (s2 m c) (w3 m c) (s4 m c)]
  blk_simp
  refine congrArg (scls (x0 m c)) ?_
  funext a; apply Fin.ext
  match a with
  | ⟨0, _⟩ => blk_simp [ind7]
  | ⟨1, _⟩ => blk_simp [ind7]

end Final

end Cert.ReferenceIdeal.Run
-- ==== Proof.Alg.lean ====
/-
   The claim that the kernel and the reference leave the same results at the ideal values, where the precondition holds.
-/
module

public import proofs.«01_k».proof.Defs
public import proofs.«01_k».proof.Proof.KArr
public import proofs.«01_k».proof.Proof.RArr
public import Idealize.ShloMosaic.Lib.ReduceAll

@[expose] public section

set_option maxRecDepth 16384

noncomputable section

namespace Cert.Alg

open Idealize.ShloMosaic hiding ix1 ix2 ix3 ix4 eq_ix1 eq_ix2 eq_ix3 eq_ix4
open Idealize.ShloMosaic.TcCoe Idealize.ShloMosaic.ValueIdx Idealize.SL.Sem Cert.Scalar Cert.Spec

/-- The side conditions of the precondition's operations. -/
theorem preFacts : Cert.Pre_normal_x.Facts where
  bitsLt_bf16_f32 := by decide
  shapeCasts_S24x1x5120_S24x40x128 := by decide
  reducesTo_S24x40x128_S24x40_d2 := by decide
  h_S_ := by decide
  bcast_S_S24x1x5120 := by decide
  reducesTo_S24x1x5120_S_d0_1_2 := by decide
  bcast_S_S24x40 := by decide
  reducesTo_S24x40_S_d0_1 := by decide

/-- Where a conjunction of two truth values holds, both do. -/
theorem and_one {a b : BitVec 1} (h : IntOp.andi a b = 1#1) : a = 1#1 ∧ b = 1#1 := by
  revert a b; decide

/-- Where a disjunction of two truth values holds, one does. -/
theorem or_one {a b : BitVec 1} (h : IntOp.ori a b = 1#1) : a = 1#1 ∨ b = 1#1 := by
  revert a b; decide

/-- A decided proposition whose truth value is one holds. -/
theorem of_bit {p : Prop} [Decidable p] (h : BitVec.ofBool (decide p) = 1#1) : p := by
  by_contra hc
  rw [decide_eq_false hc] at h
  exact absurd h (by decide)

/-- The precondition's largest magnitude of a group. -/
theorem groupmax (hc : Cert.Pre_normal_x.S24x1x5120.ShapeCasts Cert.Pre_normal_x.S24x40x128)
    (hr : Cert.Pre_normal_x.S24x40x128.ReducesTo [2] Cert.Pre_normal_x.S24x40) (hu : 0 < Cert.Pre_normal_x.S_.numel) (hb : FTy.bits .bf16 < FTy.bits .f32)
    (a0 : FVec Ideal Cert.Pre_normal_x.S24x1x5120 .bf16) (i : Fin 24) (g : Fin 40) :
    Host.reduce (FloatOps.maximumf (F := Ideal) (φ := .f32)) (Host.absf (shapeCast Cert.Pre_normal_x.S24x40x128 (extf .f32 a0 hb) hc)) (constant (F := Ideal) Cert.Pre_normal_x.S_ .f32 0xFF800000#32) hr hu (ix2 i g)
      = gm (flat a0) i g := by
  have hd : Cert.Pre_normal_x.S24x40x128.Reduces [2] Cert.Pre_normal_x.S24x40 := by decide
  haveI : Std.Commutative (FloatOps.maximumf (F := Ideal) (φ := .f32)) := ⟨fun a b => max_comm (a : EReal) b⟩
  haveI : Std.Associative (FloatOps.maximumf (F := Ideal) (φ := .f32)) := ⟨fun a b c => max_assoc (a : EReal) b c⟩
  refine (Host.reduce_eq_fold_single _ _ _ hr hd hu (ix2 i g)).trans ?_
  unfold gm amax
  show Finset.fold max (Ideal.ofBits .f32 0xFF800000#32) _ _ = _
  rw [ofBits_neg_inf]
  refine Finset.fold_congr fun k _ => ?_
  have e : hd.lift (ix2 i g) k = ix3 i g k := by
    funext a; match a with | ⟨0, _⟩ => rfl | ⟨1, _⟩ => rfl | ⟨2, _⟩ => rfl
  have e2 : shapeCast Cert.Pre_normal_x.S24x40x128 (extf .f32 a0 hb) hc (ix3 i g k) = flat a0 (ix2 i (col g k)) := by
    rw [shapeCast_apply (s := Cert.Pre_normal_x.S24x1x5120) (t := Cert.Pre_normal_x.S24x40x128) _ _ (ix3 i g k) (ix3 i 0 (col g k)) (by
      rw [Shape.rowMajor_val_three, Shape.rowMajor_val_three]
      show (i.val * 1 + 0) * 5120 + (128 * g.val + k.val) = (i.val * 40 + g.val) * 128 + k.val; omega)]
    rfl
  exact congrArg (fun y : EReal => max y (-y)) ((congrArg (shapeCast Cert.Pre_normal_x.S24x40x128 (extf (F := Ideal) .f32 a0 hb) hc) e).trans e2)

/-- The precondition says that every group of activations is finite, and zero or of a normal scaled largest magnitude. -/
theorem normal_of_pre [hP : Cert.Pre_normal_x.Facts] (a0 : FVec Ideal Cert.Pre_normal_x.S24x1x5120 .bf16) (a1 : FVec Ideal Cert.Pre_normal_x.S55296x5120 .fp8e4m3)
    (a2 : FVec Ideal Cert.Pre_normal_x.S432x40 .f32) (a3 : FVec Ideal Cert.Pre_normal_x.S55296x5120 .fp8e4m3) (a4 : FVec Ideal Cert.Pre_normal_x.S432x40 .f32)
    (h : Cert.Pre_normal_x.fn (F := Ideal) a0 a1 a2 a3 a4 = fun _ => 1#1) : Normal (flat a0) := by
  intro i g
  have hs : Subsingleton (Cert.Pre_normal_x.S_).Idx := ⟨fun x y => funext fun a => a.elim0⟩
  have h0 := congrFun h (fun a => a.elim0)
  unfold Cert.Pre_normal_x.fn at h0
  obtain ⟨hf, hn⟩ := and_one h0
  refine ⟨fun k => ?_, ?_⟩
  · have h1 := Host.reduce_andi_all _ _ _ _ _ hf (ix3 i 0 (col g k))
    rw [cmpf_apply] at h1
    have h2 : BitVec.ofBool (decide (max (a0 (ix3 i 0 (col g k))) (-(a0 (ix3 i 0 (col g k)))) ≤ Ideal.ofBits .bf16 0x7F7F#16)) = 1#1 := h1
    exact of_bit h2
  · have h1 := Host.reduce_andi_all _ _ _ _ _ hn (ix2 i g)
    have e := groupmax hP.shapeCasts_S24x1x5120_S24x40x128 hP.reducesTo_S24x40x128_S24x40_d2 hP.h_S_ hP.bitsLt_bf16_f32 a0 i g
    rcases or_one h1 with h2 | h2
    · left
      rw [cmpf_apply] at h2
      beta_reduce at h2
      rw [e] at h2
      have h3 : BitVec.ofBool (decide (gm (flat a0) i g = Ideal.ofBits .f32 0x00000000#32)) = 1#1 := h2
      exact of_bit h3
    · right
      rw [cmpf_apply, ValueIdx.mulf_apply] at h2
      beta_reduce at h2
      rw [e] at h2
      have h3 : BitVec.ofBool (decide (Ideal.ofBits .f32 0x00800000#32 ≤ gm (flat a0) i g * Ideal.ofBits .f32 0x3B124925#32)) = 1#1 := h2
      exact of_bit h3

/-- Kernel and reference leave the same outputs, codes and scales. -/
theorem algebraic : @Cert.algebraic_KernelIdeal_ReferenceIdeal_pre_normal_x Cert.KernelIdeal.Gen.facts Cert.ReferenceIdeal.Gen.facts preFacts := by
  intro m g m' g' hpre hargs
  have hX : ∀ c, Normal (Cert.KernelIdeal.Run.x0 m c) := fun c => @normal_of_pre preFacts _ _ _ _ _ (hpre c)
  refine ⟨fun c => outs (Cert.KernelIdeal.Run.x0 m c) (Cert.KernelIdeal.Run.w1 m c) (Cert.KernelIdeal.Run.s2 m c) (Cert.KernelIdeal.Run.w3 m c) (Cert.KernelIdeal.Run.s4 m c),
    fun c => codes (Cert.KernelIdeal.Run.x0 m c), fun c => scls (Cert.KernelIdeal.Run.x0 m c), ?_, ?_⟩
  · refine (θ_run _ _ _).mono (fun r h c => ?_) (θ_run_and (Cert.KernelIdeal.Run.run_arr m g) (Cert.KernelIdeal.Run.frame m g))
    exact ⟨(h.1 c).1.trans (Cert.KernelIdeal.Run.final5 m c (hX c)), (h.1 c).2.1.trans (Cert.KernelIdeal.Run.final6 m c (hX c)),
      (h.1 c).2.2.trans (Cert.KernelIdeal.Run.final7 m c (hX c)), h.2.1 c⟩
  · refine (θ_run _ _ _).mono (fun r h c => ?_) (Cert.ReferenceIdeal.Value.run_blocks m' g')
    obtain ⟨e0, e1, e2, e3, e4⟩ := hargs c
    have hx : Cert.ReferenceIdeal.Run.x0 m' c = Cert.KernelIdeal.Run.x0 m c := congrArg flat e0
    have hw1 : Cert.ReferenceIdeal.Run.w1 m' c = Cert.KernelIdeal.Run.w1 m c := e1
    have hs2 : Cert.ReferenceIdeal.Run.s2 m' c = Cert.KernelIdeal.Run.s2 m c := e2
    have hw3 : Cert.ReferenceIdeal.Run.w3 m' c = Cert.KernelIdeal.Run.w3 m c := e3
    have hs4 : Cert.ReferenceIdeal.Run.s4 m' c = Cert.KernelIdeal.Run.s4 m c := e4
    have f5 := Cert.ReferenceIdeal.Run.final5 m' c
    have f6 := Cert.ReferenceIdeal.Run.final6 m' c
    have f7 := Cert.ReferenceIdeal.Run.final7 m' c
    rw [hx, hw1, hs2, hw3, hs4] at f5
    rw [hx] at f6 f7
    exact ⟨(h c).1.trans f5, (h c).2.1.trans f6, (h c).2.2.1.trans f7, (h c).2.2.2⟩

end Cert.Alg
-- ==== Proof.KFrame.lean ====
/-
   The kernel's frame. The kernel and its reading at `Ideal` are the same program at every float instance, so the frame proved of
   the one is the other's.
-/
module

public import proofs.«01_k».proof.Proof.KRun
public import proofs.«01_k».proof.Proof.Gen.Kernel

@[expose] public section

set_option maxRecDepth 16384

noncomputable section

namespace Cert.Same

open Idealize.ShloMosaic Idealize.SL.Sem Cert.Kernel Cert.Kernel.Gen

variable {F : FTy → Type} [FloatOps F]

/-- The two kernel bodies are the same function, -/
theorem body_eq : Cert.Kernel.cc0__body (F := F) = Cert.KernelIdeal.cc0__body (F := F) := rfl

/-- the two tables of kernel bodies are the same table, -/
theorem defs₀_eq : Cert.Kernel.defs₀ (F := F) = Cert.KernelIdeal.defs₀ (F := F) := by
  unfold Cert.Kernel.defs₀ Cert.KernelIdeal.defs₀
  congr 1
  funext n
  match n with
  | ⟨0, _⟩ => rfl

/-- with their regions and pipelines too, -/
theorem defs_eq : Cert.Kernel.defs (F := F) = Cert.KernelIdeal.defs (F := F) := by
  unfold Cert.Kernel.defs Cert.KernelIdeal.defs
  rw [defs₀_eq]; rfl

/-- and the two programs are the same program. -/
theorem main_eq : Cert.Kernel.main (F := F) = Cert.KernelIdeal.main (F := F) := rfl

/-- The kernel's frame: it terminates without fault, the arguments end unchanged and every semaphore reads zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq, main_eq]
  exact Cert.KernelIdeal.Run.frame (F := F) m ρ

end Cert.Same
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Alg
public import proofs.«01_k».proof.Proof.KFrame
public import Idealize.ShloMosaic.Adequacy
public import Idealize.ShloMosaic.Init

@[expose] public section

noncomputable section

namespace Cert.Proof

open Idealize.ShloMosaic Idealize.SL.Sem Cert.Kernel

/-- All the claims: the frames of the kernel, of its reading at `Ideal` and of the reference's, the preservation of the
    kernel by that reading, and the equality of kernel and reference on activations that are
    finite, each group of them zero or normal. -/
theorem claim : Cert.Claim :=
  ⟨Cert.Kernel.Gen.facts, Cert.KernelIdeal.Gen.facts, Cert.ReferenceIdeal.Gen.facts, Cert.Alg.preFacts,
    fun m ρ _ => Cert.Same.frame m ρ,
    fun m ρ _ => Cert.KernelIdeal.Run.frame m ρ, fun m ρ _ => Cert.KernelIdeal.Run.frame m ρ,
    fun m ρ _ => Cert.ReferenceIdeal.Gen.frame m ρ, fun m ρ _ => Cert.ReferenceIdeal.Gen.frame m ρ,
    trivial, Cert.Alg.algebraic⟩

end Cert.Proof

end
